-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_on_clip_idle [hKernelIdeal : Cert.KernelIdeal.Facts] [hReferenceIdeal : Cert.ReferenceIdeal.Facts] [hOn_clip_idle : Cert.On_clip_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 512]⟩ : Shape).Idx, (Layout.block ⟨2, ![4096, 512]⟩ ⟨2, ![4096, 2048]⟩ 1 4 c ((Cert.On_clip_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![4096, 512]⟩ : Shape).Idx → _) i = 1#1 → r.2.mem ((c.tc : Thread Cert.KernelIdeal.nD Cert.KernelIdeal.τ).loc Cert.KernelIdeal.main_v1) i = (Layout.block ⟨2, ![4096, 512]⟩ ⟨2, ![4096, 2048]⟩ 1 4 c v0 : (⟨2, ![4096, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_clip_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_clip_idle : Cert.On_clip_idle.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_ReferenceIdeal_on_clip_idle (hKernelIdeal := hKernelIdeal) (hReferenceIdeal := hReferenceIdeal) (hOn_clip_idle := hOn_clip_idle)
    ∧ algebraic_KernelIdeal_SiluIdeal (hKernelIdeal := hKernelIdeal) (hSiluIdeal := hSiluIdeal)
-- ==== On_clip_idle.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_cst : FVec F S_ .f32 := constant S_ .f32 0xC2700000#32
  let main_v1 : FVec F S4096x2048 .f32 := broadcastInDim S4096x2048 ![] bcast_S_S4096x2048 main_cst
  let main_v2 : IVec S4096x2048 1 := cmpf .oge main_v0 main_v1
  let main_cst_0 : FVec F S_ .f32 := constant S_ .f32 0x42700000#32
  let main_v3 : FVec F S4096x2048 .f32 := broadcastInDim S4096x2048 ![] bcast_S_S4096x2048 main_cst_0
  let main_v4 : IVec S4096x2048 1 := cmpf .ole main_v0 main_v3
  let main_v5 : IVec S4096x2048 1 := andi main_v2 main_v4
  main_v5
-- ==== Kernel.lean ====
abbrev S1024x4096 : Shape := ⟨2, ![1024, 4096]⟩
abbrev S4096x512 : Shape := ⟨2, ![4096, 512]⟩
abbrev S3x4096x512 : Shape := ⟨3, ![3, 4096, 512]⟩
abbrev S3x1024x512 : Shape := ⟨3, ![3, 1024, 512]⟩
abbrev S256x4096 : Shape := ⟨2, ![256, 4096]⟩
abbrev S4 : Shape := ⟨1, ![4]⟩
abbrev S3 : Shape := ⟨1, ![3]⟩
abbrev S_ : Shape := ⟨0, ![]⟩
abbrev S1 : Shape := ⟨1, ![1]⟩
abbrev S1x4096x512 : Shape := ⟨3, ![1, 4096, 512]⟩
abbrev S1024x512 : Shape := ⟨2, ![1024, 512]⟩
abbrev S1x4096x256 : Shape := ⟨3, ![1, 4096, 256]⟩
abbrev S4096x256 : Shape := ⟨2, ![4096, 256]⟩
abbrev S1x1024x512 : Shape := ⟨3, ![1, 1024, 512]⟩

abbrev nBuf : Space → Nat
  | .hbm => 3
  | .vmem => 8
  | .smem => 0
  | _ => 0

abbrev bufTy : (tb : Table) → Fin (tcTables nBuf tb) → BufTy
  | .hbm, ⟨0, _⟩ => ⟨S1024x4096, .f32⟩
  | .hbm, ⟨1, _⟩ => ⟨S4096x512, .f32⟩
  | .hbm, ⟨2, _⟩ => ⟨S4096x512, .f32⟩
  | .local _ .vmem, ⟨0, _⟩ => ⟨S4096x512, .f32⟩
  | .local _ .vmem, ⟨1, _⟩ => ⟨S4096x512, .f32⟩
  | .local _ .vmem, ⟨2, _⟩ => ⟨S3x4096x512, .bf16⟩
  | .local _ .vmem, ⟨3, _⟩ => ⟨S3x1024x512, .bf16⟩
  | .local _ .vmem, ⟨4, _⟩ => ⟨S3x1024x512, .bf16⟩
  | .local _ .vmem, ⟨5, _⟩ => ⟨S1024x4096, .bf16⟩
  | .local _ .vmem, ⟨6, _⟩ => ⟨S4096x512, .bf16⟩
  | .local _ .vmem, ⟨7, _⟩ => ⟨S256x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_26 : BitVec 32 := 1#32
  let v41 : BitVec 32 := Scalar.muli v35 c1_i32_26
  let v42 : BitVec 32 := Scalar.addi c0_i32_27 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_34 : BitVec 32 := 1#32
  let v49 : BitVec 32 := Scalar.muli v24 c1_i32_34
  let v50 : BitVec 32 := Scalar.addi c0_i32_35 v49
  v50.toNat
def k0_dev5 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_41 : BitVec 32 := 1#32
  let v57 : BitVec 32 := Scalar.muli v13 c1_i32_41
  let v58 : BitVec 32 := Scalar.addi c0_i32_42 v57
  v58.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v98 : BitVec 32 := Scalar.muli v2 c1024_i32
  let v99 : Index := Scalar.indexCast v98
  let c0_75 : Index := 0#32
  ![v99.toNat, 0]
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_87 : BitVec 32 := 1#32
  let v107 : BitVec 32 := Scalar.muli v24 c1_i32_87
  let v108 : BitVec 32 := Scalar.addi c0_i32_88 v107
  v108.toNat
def k0_dev7 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_105 : BitVec 32 := 1#32
  let v127 : BitVec 32 := Scalar.muli v13 c1_i32_105
  let v128 : BitVec 32 := Scalar.addi c0_i32_106 v127
  v128.toNat
def k0_dev8 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_122 : BitVec 32 := 1#32
  let v143 : BitVec 32 := Scalar.muli v13 c1_i32_122
  let v144 : BitVec 32 := Scalar.addi c0_i32_123 v143
  v144.toNat
def k0_dev9 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_141 : BitVec 32 := 1#32
  let v163 : BitVec 32 := Scalar.muli v24 c1_i32_141
  let v164 : BitVec 32 := Scalar.addi c0_i32_142 v163
  v164.toNat
def k0_dev10 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_179 : BitVec 32 := 1#32
  let v199 : BitVec 32 := Scalar.muli v35 c1_i32_179
  let v200 : BitVec 32 := Scalar.addi c0_i32_180 v199
  v200.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_198 : BitVec 32 := 1024#32
  let v220 : BitVec 32 := Scalar.muli v13 c1024_i32_198
  let v221 : Index := Scalar.indexCast v220
  let c0_199 : Index := 0#32
  ![v221.toNat, 0]
def k0_off3 (d0 : Dev nD) (c1_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_213 : BitVec 32 := 1024#32
  let v234 : BitVec 32 := Scalar.muli v24 c1024_i32_213
  let v235 : Index := Scalar.indexCast v234
  let c0_214 : Index := 0#32
  ![v235.toNat, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Views.lean ====
/-
The buffers of one device as the proof reads them: which elements a slot, half a slot or a strip of rows
has, how such parts make up the whole buffer, and what a view of a part reads off contents that are given
for the whole buffer.
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Tactic

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.Sem

variable {F : FTy → Type} [FloatOps F]

/-! ## The buffers -/

/-- The device's rows of `x`, in main memory. -/
abbrev xH : Memref sig .tc .hbm S1024x4096 .f32 := Memref.whole main_arg0
/-- The staged columns of `w`. -/
abbrev wS : Memref sig .tc .vmem S4096x512 .f32 := Memref.whole cc0_stg0_0
/-- The staged result. -/
abbrev oS : Memref sig .tc .vmem S4096x512 .f32 := Memref.whole cc0_stg1_0
/-- The three slots for the other devices' columns of `w`. -/
abbrev wI : Memref sig .tc .vmem S3x4096x512 .bf16 := Memref.whole cc0_scratch0
/-- The three result blocks that leave. -/
abbrev rO : Memref sig .tc .vmem S3x1024x512 .bf16 := Memref.whole cc0_scratch1
/-- The three result blocks that arrive. -/
abbrev rI : Memref sig .tc .vmem S3x1024x512 .bf16 := Memref.whole cc0_scratch2
/-- The device's rows of `x`, rounded. -/
abbrev xB : Memref sig .tc .vmem S1024x4096 .bf16 := Memref.whole cc0_scratch3
/-- The device's columns of `w`, rounded. -/
abbrev wB : Memref sig .tc .vmem S4096x512 .bf16 := Memref.whole cc0_scratch4
/-- The strip of `x` just fetched. -/
abbrev xS : Memref sig .tc .vmem S256x4096 .f32 := Memref.whole cc0_scratch5

/-! ## The rectangles -/

theorem inbW (k : Fin 3) : ∀ a, (![k.val, 0, 0] : Fin 3 → ℕ) a + S1x4096x512.size a ≤ S3x4096x512.size a := by
  revert k; decide
theorem inbR (k : Fin 3) : ∀ a, (![k.val, 0, 0] : Fin 3 → ℕ) a + S1x1024x512.size a ≤ S3x1024x512.size a := by
  revert k; decide
theorem inbH (k : Fin 3) (h : Fin 2) : ∀ a, (![k.val, 0, 256 * h.val] : Fin 3 → ℕ) a + S1x4096x256.size a ≤ S3x4096x512.size a := by
  revert k h; decide
theorem inbX (t : Fin 4) : ∀ a, (![256 * t.val, 0] : Fin 2 → ℕ) a + S256x4096.size a ≤ S1024x4096.size a := by
  revert t; decide
theorem inbO (d : Fin 4) : ∀ a, (![1024 * d.val, 0] : Fin 2 → ℕ) a + S1024x512.size a ≤ S4096x512.size a := by
  revert d; decide

/-- Slot `k` of the three weight slots. -/
abbrev rcW (k : Fin 3) : Rect S3x4096x512 := Rect.unit (s := S3x4096x512) ![k.val, 0, 0] S1x4096x512.size (inbW k)
/-- Half `h` of the columns of weight slot `k`. -/
abbrev rcH (k : Fin 3) (h : Fin 2) : Rect S3x4096x512 := Rect.unit (s := S3x4096x512) ![k.val, 0, 256 * h.val] S1x4096x256.size (inbH k h)
/-- Slot `k` of three result blocks. -/
abbrev rcR (k : Fin 3) : Rect S3x1024x512 := Rect.unit (s := S3x1024x512) ![k.val, 0, 0] S1x1024x512.size (inbR k)
/-- Strip `t` of the rows of `x`. -/
abbrev rcX (t : Fin 4) : Rect S1024x4096 := Rect.unit (s := S1024x4096) ![256 * t.val, 0] S256x4096.size (inbX t)
/-- Row block `d` of the result. -/
abbrev rcO (d : Fin 4) : Rect S4096x512 := Rect.unit (s := S4096x512) ![1024 * d.val, 0] S1024x512.size (inbO d)

/-- The views that the copies go through. -/
abbrev wSl (k : Fin 3) : Memref sig .tc .vmem S4096x512 .bf16 :=
  (wI.slice (rcW k) (fun _ => rfl)).squeeze S4096x512 squeezes_S1x4096x512_S4096x512
abbrev wHf (k : Fin 3) (h : Fin 2) : Memref sig .tc .vmem S4096x256 .bf16 :=
  (wI.slice (rcH k h) (fun _ => rfl)).squeeze S4096x256 squeezes_S1x4096x256_S4096x256
abbrev oSl (k : Fin 3) : Memref sig .tc .vmem S1024x512 .bf16 :=
  (rO.slice (rcR k) (fun _ => rfl)).squeeze S1024x512 squeezes_S1x1024x512_S1024x512
abbrev iSl (k : Fin 3) : Memref sig .tc .vmem S1024x512 .bf16 :=
  (rI.slice (rcR k) (fun _ => rfl)).squeeze S1024x512 squeezes_S1x1024x512_S1024x512
abbrev xSt (t : Fin 4) : Memref sig .tc .hbm S256x4096 .f32 := xH.slice (rcX t) (fun _ => rfl)

/-! ## Which elements they have -/

theorem mem_rcW (k : Fin 3) (i : S3x4096x512.Idx) : i ∈ (rcW k).set ↔ (i 0).val = k.val := by
  rw [Rect.mem_set_unit, Fin.forall_fin_succ, Fin.forall_fin_two]
  have h1 := (i 1).isLt; have h2 := (i 2).isLt
  simp only [S3x4096x512, S1x4096x512] at *
  simp at *; omega
theorem mem_rcH (k : Fin 3) (h : Fin 2) (i : S3x4096x512.Idx) :
    i ∈ (rcH k h).set ↔ (i 0).val = k.val ∧ 256 * h.val ≤ (i 2).val ∧ (i 2).val < 256 * h.val + 256 := by
  rw [Rect.mem_set_unit, Fin.forall_fin_succ, Fin.forall_fin_two]
  have h1 := (i 1).isLt
  simp only [S3x4096x512, S1x4096x256] at *
  simp at *; omega
theorem mem_rcR (k : Fin 3) (i : S3x1024x512.Idx) : i ∈ (rcR k).set ↔ (i 0).val = k.val := by
  rw [Rect.mem_set_unit, Fin.forall_fin_succ, Fin.forall_fin_two]
  have h1 := (i 1).isLt; have h2 := (i 2).isLt
  simp only [S3x1024x512, S1x1024x512] at *
  simp at *; omega
theorem mem_rcX (t : Fin 4) (i : S1024x4096.Idx) : i ∈ (rcX t).set ↔ 256 * t.val ≤ (i 0).val ∧ (i 0).val < 256 * t.val + 256 := by
  rw [Rect.mem_set_unit, Fin.forall_fin_two]
  have h1 := (i 1).isLt
  simp only [S1024x4096, S256x4096] at *
  simp at *; omega
theorem mem_rcO (d : Fin 4) (i : S4096x512.Idx) : i ∈ (rcO d).set ↔ 1024 * d.val ≤ (i 0).val ∧ (i 0).val < 1024 * d.val + 1024 := by
  rw [Rect.mem_set_unit, Fin.forall_fin_two]
  have h1 := (i 1).isLt
  simp only [S4096x512, S1024x512] at *
  simp at *; omega

theorem set_wSl (k : Fin 3) : (wSl k).view.set = (rcW k).set :=
  (Memref.set_view_squeeze _ _).trans (View.set_slice_whole _ _)
theorem set_wHf (k : Fin 3) (h : Fin 2) : (wHf k h).view.set = (rcH k h).set :=
  (Memref.set_view_squeeze _ _).trans (View.set_slice_whole _ _)
theorem set_oSl (k : Fin 3) : (oSl k).view.set = (rcR k).set :=
  (Memref.set_view_squeeze _ _).trans (View.set_slice_whole _ _)
theorem set_iSl (k : Fin 3) : (iSl k).view.set = (rcR k).set :=
  (Memref.set_view_squeeze _ _).trans (View.set_slice_whole _ _)
theorem set_xSt (t : Fin 4) : (xSt t).view.set = (rcX t).set := View.set_slice_whole _ _
theorem set_accW (k : Fin 3) : (wI.access (rcW k) : View sig .tc _ _ _).set = (rcW k).set := View.set_slice_whole _ _
theorem set_accO (k : Fin 3) : (rO.access (rcR k) : View sig .tc _ _ _).set = (rcR k).set := View.set_slice_whole _ _
theorem set_accI (k : Fin 3) : (rI.access (rcR k) : View sig .tc _ _ _).set = (rcR k).set := View.set_slice_whole _ _
theorem set_accX (t : Fin 4) : (xB.access (rcX t) : View sig .tc _ _ _).set = (rcX t).set := View.set_slice_whole _ _
theorem set_accR (d : Fin 4) : (oS.access (rcO d) : View sig .tc _ _ _).set = (rcO d).set := View.set_slice_whole _ _

/-! ## Contents given for a whole buffer, read through a part of it -/

theorem read_wSl (G : cc0_scratch0.ty.Contents (Elt F)) (k : Fin 3) (x : Fin 4096) (y : Fin 512) :
    (wSl k).view.read (Elt F) G (ix2 x y) = G (ix3 k x y) := by
  rw [View.read_apply]
  refine congrArg G ?_
  change (rcW k).emb (Shape.reshapeEquiv _ (ix2 x y)) = _
  rw [reshapeEquiv_ix2_1ab]
  refine funext fun a => ?_
  fin_cases a <;> (ext; simp)
theorem read_wHf (G : cc0_scratch0.ty.Contents (Elt F)) (k : Fin 3) (h : Fin 2) (x : Fin 4096) (y : Fin 256) :
    (wHf k h).view.read (Elt F) G (ix2 x y) = G (ix3 k x ⟨256 * h.val + y.val, by omega⟩) := by
  rw [View.read_apply]
  refine congrArg G ?_
  change (rcH k h).emb (Shape.reshapeEquiv _ (ix2 x y)) = _
  rw [reshapeEquiv_ix2_1ab]
  refine funext fun a => ?_
  fin_cases a <;> (ext; simp)
theorem read_oSl (G : cc0_scratch1.ty.Contents (Elt F)) (k : Fin 3) (x : Fin 1024) (y : Fin 512) :
    (oSl k).view.read (Elt F) G (ix2 x y) = G (ix3 k x y) := by
  rw [View.read_apply]
  refine congrArg G ?_
  change (rcR k).emb (Shape.reshapeEquiv _ (ix2 x y)) = _
  rw [reshapeEquiv_ix2_1ab]
  refine funext fun a => ?_
  fin_cases a <;> (ext; simp)
theorem read_iSl (G : cc0_scratch2.ty.Contents (Elt F)) (k : Fin 3) (x : Fin 1024) (y : Fin 512) :
    (iSl k).view.read (Elt F) G (ix2 x y) = G (ix3 k x y) := by
  rw [View.read_apply]
  refine congrArg G ?_
  change (rcR k).emb (Shape.reshapeEquiv _ (ix2 x y)) = _
  rw [reshapeEquiv_ix2_1ab]
  refine funext fun a => ?_
  fin_cases a <;> (ext; simp)
theorem read_accW (G : cc0_scratch0.ty.Contents (Elt F)) (k : Fin 3) (x : Fin 4096) (y : Fin 512) :
    (wI.access (rcW k) : View sig .tc _ _ _).read (Elt F) G (ix3 0 x y) = G (ix3 k x y) := by
  rw [View.read_apply]
  refine congrArg G ?_
  change (rcW k).emb (ix3 0 x y) = _
  refine funext fun a => ?_
  fin_cases a <;> (ext; simp)
theorem read_accO (G : cc0_scratch1.ty.Contents (Elt F)) (k : Fin 3) (x : Fin 1024) (y : Fin 512) :
    (rO.access (rcR k) : View sig .tc _ _ _).read (Elt F) G (ix3 0 x y) = G (ix3 k x y) := by
  rw [View.read_apply]
  refine congrArg G ?_
  change (rcR k).emb (ix3 0 x y) = _
  refine funext fun a => ?_
  fin_cases a <;> (ext; simp)
theorem read_accI (G : cc0_scratch2.ty.Contents (Elt F)) (k : Fin 3) (x : Fin 1024) (y : Fin 512) :
    (rI.access (rcR k) : View sig .tc _ _ _).read (Elt F) G (ix3 0 x y) = G (ix3 k x y) := by
  rw [View.read_apply]
  refine congrArg G ?_
  change (rcR k).emb (ix3 0 x y) = _
  refine funext fun a => ?_
  fin_cases a <;> (ext; simp)
theorem read_accX (G : cc0_scratch3.ty.Contents (Elt F)) (t : Fin 4) (x : Fin 256) (y : Fin 4096) :
    (xB.access (rcX t) : View sig .tc _ _ _).read (Elt F) G (ix2 x y) = G (ix2 ⟨256 * t.val + x.val, by omega⟩ y) := by
  rw [View.read_apply]
  refine congrArg G ?_
  change (rcX t).emb (ix2 x y) = _
  refine funext fun a => ?_
  fin_cases a <;> (ext; simp)
theorem read_xSt (G : main_arg0.ty.Contents (Elt F)) (t : Fin 4) (x : Fin 256) (y : Fin 4096) :
    (xSt t).view.read (Elt F) G (ix2 x y) = G (ix2 ⟨256 * t.val + x.val, by omega⟩ y) := by
  rw [View.read_apply]
  refine congrArg G ?_
  change (rcX t).emb (ix2 x y) = _
  refine funext fun a => ?_
  fin_cases a <;> (ext; simp)
theorem read_accR (G : cc0_stg1_0.ty.Contents (Elt F)) (d : Fin 4) (x : Fin 1024) (y : Fin 512) :
    (oS.access (rcO d) : View sig .tc _ _ _).read (Elt F) G (ix2 x y) = G (ix2 ⟨1024 * d.val + x.val, by omega⟩ y) := by
  rw [View.read_apply]
  refine congrArg G ?_
  change (rcO d).emb (ix2 x y) = _
  refine funext fun a => ?_
  fin_cases a <;> (ext; simp)

/-! ## What a write through a view leaves on the view's own elements -/

theorem write_eq_of_read {κ : Kind} {sp : Space} {s : Shape} {e : EltTy} (v : View sig κ sp s e) (f G : v.ty.Contents (Elt F))
    (w : s.Idx → Elt F e) (h : v.read (Elt F) G = w) : ∀ i ∈ v.set, v.write (Elt F) f w Finset.univ i = G i := by
  intro i hi
  rw [← h, View.write_read_eq_piecewise]
  exact Finset.piecewise_eq_of_mem _ _ _ (by rwa [View.setOn_univ])

/-! ## The semaphores -/

/-- DMA semaphore number `j`. -/
abbrev dq (j : Fin 17) : SemLoc sig := .dma j

theorem sem6_0 : ((cc0_scratch6.slice (Rect.unit (s := S4) ![0] S1.size inb_S4_S1_0)).squeeze S_ squeezes_S1_S_).sem = (2 : Fin 17) := by decide
theorem sem6_1 : ((cc0_scratch6.slice (Rect.unit (s := S4) ![1] S1.size inb_S4_S1_1)).squeeze S_ squeezes_S1_S_).sem = (3 : Fin 17) := by decide
theorem sem6_2 : ((cc0_scratch6.slice (Rect.unit (s := S4) ![2] S1.size inb_S4_S1_2)).squeeze S_ squeezes_S1_S_).sem = (4 : Fin 17) := by decide
theorem sem6_3 : ((cc0_scratch6.slice (Rect.unit (s := S4) ![3] S1.size inb_S4_S1_3)).squeeze S_ squeezes_S1_S_).sem = (5 : Fin 17) := by decide
theorem sem7_0 : ((cc0_scratch7.slice (Rect.unit (s := S4) ![0] S1.size inb_S4_S1_0)).squeeze S_ squeezes_S1_S_).sem = (6 : Fin 17) := by decide
theorem sem7_1 : ((cc0_scratch7.slice (Rect.unit (s := S4) ![1] S1.size inb_S4_S1_1)).squeeze S_ squeezes_S1_S_).sem = (7 : Fin 17) := by decide
theorem sem7_2 : ((cc0_scratch7.slice (Rect.unit (s := S4) ![2] S1.size inb_S4_S1_2)).squeeze S_ squeezes_S1_S_).sem = (8 : Fin 17) := by decide
theorem sem7_3 : ((cc0_scratch7.slice (Rect.unit (s := S4) ![3] S1.size inb_S4_S1_3)).squeeze S_ squeezes_S1_S_).sem = (9 : Fin 17) := by decide
theorem sem8_0 : ((cc0_scratch8.slice (Rect.unit (s := S3) ![0] S1.size inb_S3_S1_0)).squeeze S_ squeezes_S1_S_).sem = (10 : Fin 17) := by decide
theorem sem8_1 : ((cc0_scratch8.slice (Rect.unit (s := S3) ![1] S1.size inb_S3_S1_1)).squeeze S_ squeezes_S1_S_).sem = (11 : Fin 17) := by decide
theorem sem8_2 : ((cc0_scratch8.slice (Rect.unit (s := S3) ![2] S1.size inb_S3_S1_2)).squeeze S_ squeezes_S1_S_).sem = (12 : Fin 17) := by decide
theorem sem9_0 : ((cc0_scratch9.slice (Rect.unit (s := S3) ![0] S1.size inb_S3_S1_0)).squeeze S_ squeezes_S1_S_).sem = (13 : Fin 17) := by decide
theorem sem9_1 : ((cc0_scratch9.slice (Rect.unit (s := S3) ![1] S1.size inb_S3_S1_1)).squeeze S_ squeezes_S1_S_).sem = (14 : Fin 17) := by decide
theorem sem9_2 : ((cc0_scratch9.slice (Rect.unit (s := S3) ![2] S1.size inb_S3_S1_2)).squeeze S_ squeezes_S1_S_).sem = (15 : Fin 17) := by decide
theorem sem10 : cc0_scratch10.sem = (16 : Fin 17) := rfl

end Cert.Exchange

end
-- ==== Proof.Protocol.lean ====
/-
The exchange between the four devices, as a schedule: which cell (a device's semaphore) is paid how much in
which round and what the payment hands over, what every buffer holds when it is handed over, what a device
owes when the kernel starts and in which order it pays.

Device `c` has a left neighbour, a right neighbour and the device opposite. Its columns of `w` go right and
left; each neighbour passes on one half of them, so that the opposite device receives them too. The product of
`c`'s rows of `x` with another device's columns of `w` goes back to that device.
-/
module

public import proofs.«01_k».proof.Proof.Views
public import proofs.«01_k».proof.Proof.Gen.KernelIdeal.Launch

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the staging pipeline's and the exchange's (three duty names) -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at the start: any contents, every semaphore at zero. -/
def s₀ : MemSt nD τ sig (Elt F) := ⟨m, fun _ => 0, ρ⟩

/-! ## The neighbours -/

set_option backward.proofsInPublic true in
/-- The device before `c`. -/
def lft (c : Dev nD) : Dev nD := ⟨(c.val + 3) % 4, Nat.mod_lt _ (by decide)⟩
set_option backward.proofsInPublic true in
/-- The device after `c`. -/
def rgt (c : Dev nD) : Dev nD := ⟨(c.val + 1) % 4, Nat.mod_lt _ (by decide)⟩
set_option backward.proofsInPublic true in
/-- The device opposite `c`. -/
def dia (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem dia_dia (c : Dev nD) : dia (dia c) = c := by revert c; decide
theorem dia_rgt (c : Dev nD) : dia (rgt c) = lft c := by revert c; decide
theorem dia_lft (c : Dev nD) : dia (lft c) = rgt c := by revert c; decide

theorem dev1_eq (c : Dev nD) : (⟨k0_dev1 c, k0_dev1_lt c⟩ : Dev nD) = lft c := by revert c; decide +kernel
theorem dev2_eq (c : Dev nD) : (⟨k0_dev2 c, k0_dev2_lt c⟩ : Dev nD) = rgt c := by revert c; decide +kernel
theorem dev3_eq (c : Dev nD) : (⟨k0_dev3 c, k0_dev3_lt c⟩ : Dev nD) = dia c := by revert c; decide +kernel
theorem dev4_eq (c : Dev nD) : (⟨k0_dev4 c, k0_dev4_lt c⟩ : Dev nD) = rgt c := by revert c; decide +kernel
theorem dev5_eq (c : Dev nD) : (⟨k0_dev5 c, k0_dev5_lt c⟩ : Dev nD) = lft c := by revert c; decide +kernel
theorem dev6_eq (c : Dev nD) : (⟨k0_dev6 c, k0_dev6_lt c⟩ : Dev nD) = rgt c := by revert c; decide +kernel
theorem dev7_eq (c : Dev nD) : (⟨k0_dev7 c, k0_dev7_lt c⟩ : Dev nD) = lft c := by revert c; decide +kernel
theorem dev8_eq (c : Dev nD) : (⟨k0_dev8 c, k0_dev8_lt c⟩ : Dev nD) = lft c := by revert c; decide +kernel
theorem dev9_eq (c : Dev nD) : (⟨k0_dev9 c, k0_dev9_lt c⟩ : Dev nD) = rgt c := by revert c; decide +kernel
theorem dev10_eq (c : Dev nD) : (⟨k0_dev10 c, k0_dev10_lt c⟩ : Dev nD) = dia c := by revert c; decide +kernel

theorem off1_eq (c : Dev nD) : k0_off1 c = ![1024 * c.val, 0] := by revert c; decide +kernel
theorem off2_eq (c : Dev nD) : k0_off2 c = ![1024 * (lft c).val, 0] := by revert c; decide +kernel
theorem off3_eq1 (c : Dev nD) : k0_off3 c 1#32 = ![1024 * (rgt c).val, 0] := by revert c; decide +kernel
theorem off3_eq2 (c : Dev nD) : k0_off3 c 2#32 = ![1024 * (dia c).val, 0] := by revert c; decide +kernel

/-! ## What the buffers hold -/

/-- The device's rows of `x`. -/
def xIn (c : Dev nD) : main_arg0.ty.Contents (Elt F) := (s₀ m ρ).mem ((c : Thread nD τ).loc main_arg0)
/-- The device's columns of `w`. -/
def wIn (c : Dev nD) : cc0_stg0_0.ty.Contents (Elt F) :=
  (win0_0.blk (0 : Fin 1)).view.read (Elt F) ((s₀ m ρ).mem ((c : Thread nD τ).loc main_arg1))
/-- The rows of `x`, rounded. -/
def xBf (c : Dev nD) : cc0_scratch3.ty.Contents (Elt F) := truncf .bf16 (xIn m ρ c : FVec F S1024x4096 .f32) bitsLt_bf16_f32
/-- The columns of `w`, rounded. -/
def wBf (c : Dev nD) : cc0_scratch4.ty.Contents (Elt F) := truncf .bf16 (wIn m ρ c : FVec F S4096x512 .f32) bitsLt_bf16_f32
/-- Whose columns come into weight slot `k`, and whose products into result slot `k`. -/
def src (k : Fin 3) (c : Dev nD) : Dev nD := match k with | 0 => lft c | 1 => rgt c | 2 => dia c
/-- Whose columns the products in leaving slot `k` are with. -/
def tgt (k : Fin 3) (c : Dev nD) : Dev nD := match k with | 0 => rgt c | 1 => lft c | 2 => dia c
/-- The products of device `d`'s rows with device `e`'s columns, the function applied. -/
def prod (d e : Dev nD) : FVec F S1024x512 .f32 := k0_pay6 (xBf m ρ d) (wBf m ρ e)
/-- The same, rounded. -/
def prodB (d e : Dev nD) : FVec F S1024x512 .bf16 := truncf .bf16 (prod m ρ d e) bitsLt_bf16_f32
/-- The three weight slots when all have arrived. -/
def wAll (c : Dev nD) : cc0_scratch0.ty.Contents (Elt F) := fun i => wBf m ρ (src (i 0) c) (ix2 (i 1) (i 2))
/-- The three leaving result blocks. -/
def rOut (c : Dev nD) : cc0_scratch1.ty.Contents (Elt F) := fun i => prodB m ρ c (tgt (i 0) c) (ix2 (i 1) (i 2))
/-- The three result blocks that arrived. -/
def rIn (c : Dev nD) : cc0_scratch2.ty.Contents (Elt F) := fun i => prodB m ρ (src (i 0) c) c (ix2 (i 1) (i 2))
/-- Strip `t` of the rows of `x`. -/
def strip (c : Dev nD) (t : Fin 4) : cc0_scratch5.ty.Contents (Elt F) := (xSt t).view.read (Elt F) (xIn m ρ c)
/-- The device that row `i` of the result belongs to. -/
def rowDev (i : Fin 4096) : Dev nD := ⟨i.val / 1024, by have := i.isLt; show _ < 4; omega⟩
/-- The row within its device's block. -/
def rowIn (i : Fin 4096) : Fin 1024 := ⟨i.val % 1024, Nat.mod_lt _ (by decide)⟩
/-- The result: the device's own rows as computed, the others' rows rounded on the way. -/
def outAt (c : Dev nD) : cc0_stg1_0.ty.Contents (Elt F) := fun i =>
  if rowDev (i 0) = c then prod m ρ c c (ix2 (rowIn (i 0)) (i 1))
  else extf .f32 (prodB m ρ (rowDev (i 0)) c) bitsLt_bf16_f32 (ix2 (rowIn (i 0)) (i 1))

/-! ## Elements of a buffer of one device -/

abbrev atX (c : Dev nD) (S : Finset main_arg0.ty.Idx) (q : PosShare TreeShare) (f : main_arg0.ty.Contents (Elt F)) : sProp 𝕄 :=
  ((c : Thread nD τ).loc main_arg0) ↦[S]{q} f
abbrev atW (c : Dev nD) (S : Finset cc0_scratch0.ty.Idx) (q : PosShare TreeShare) (f : cc0_scratch0.ty.Contents (Elt F)) : sProp 𝕄 :=
  ((c : Thread nD τ).loc cc0_scratch0) ↦[S]{q} f
abbrev atO (c : Dev nD) (S : Finset cc0_scratch1.ty.Idx) (f : cc0_scratch1.ty.Contents (Elt F)) : sProp 𝕄 :=
  ((c : Thread nD τ).loc cc0_scratch1) ↦[S]{fullShare} f
abbrev atI (c : Dev nD) (S : Finset cc0_scratch2.ty.Idx) (f : cc0_scratch2.ty.Contents (Elt F)) : sProp 𝕄 :=
  ((c : Thread nD τ).loc cc0_scratch2) ↦[S]{fullShare} f
abbrev atB (c : Dev nD) (q : PosShare TreeShare) (f : cc0_scratch4.ty.Contents (Elt F)) : sProp 𝕄 :=
  ((c : Thread nD τ).loc cc0_scratch4) ↦[Finset.univ]{q} f
abbrev atS (c : Dev nD) (f : cc0_scratch5.ty.Contents (Elt F)) : sProp 𝕄 :=
  ((c : Thread nD τ).loc cc0_scratch5) ↦[Finset.univ]{fullShare} f

/-! ## The cells -/

/-- The barrier semaphore. -/
abbrev barS : Sem sig := (SemArray.scalar (sig.barrier 0 rfl) : Sems sig S_).sem
abbrev barCell (c : Dev nD) : GSem nD τ sig := ((c : Thread nD τ), .reg barS)
abbrev dCell (c : Dev nD) (q : Fin 17) : GSem nD τ sig := ((c : Thread nD τ), .dma q)
/-- The sixteen cells of a device: the barrier, then the kernel's own semaphores. -/
def csem (j : Fin 16) : SemLoc sig := Fin.cases (.reg barS) (fun i : Fin 15 => .dma (⟨i.val + 2, by omega⟩ : Fin 17)) j
abbrev kcell (ck : Dev nD × Fin 16) : GSem nD τ sig := ((ck.1 : Thread nD τ), csem ck.2)

/-! ## Amounts -/

abbrev Nw : ℕ := (wSl 0).view.dmaCredit
abbrev Nh : ℕ := (wHf 0 0).view.dmaCredit
abbrev Nr : ℕ := (iSl 0).view.dmaCredit
abbrev Ns : ℕ := xS.view.dmaCredit

/-- What one transfer adds to semaphore `q`. -/
def amt (q : Fin 17) : ℕ :=
  if q.val = 4 ∨ q.val = 5 ∨ q.val = 8 ∨ q.val = 9 then Nh else if q.val < 10 then Nw else if q.val < 16 then Nr else Ns

theorem amt_pos (q : Fin 17) : 0 < amt q := by
  unfold amt
  (repeat' split) <;> exact View.dmaCredit_pos _ (by decide)

theorem amt_w (q : Fin 17) (h : q = 2 ∨ q = 3 ∨ q = 6 ∨ q = 7) : amt q = Nw := by rcases h with rfl | rfl | rfl | rfl <;> rfl
theorem amt_h (q : Fin 17) (h : q = 4 ∨ q = 5 ∨ q = 8 ∨ q = 9) : amt q = Nh := by rcases h with rfl | rfl | rfl | rfl <;> rfl
theorem amt_r (q : Fin 17) (h : 10 ≤ q.val ∧ q.val < 16) : amt q = Nr := by
  unfold amt; rw [if_neg (by omega), if_neg (by omega), if_pos h.2]
theorem cred_w (k : Fin 3) : (wSl k).view.dmaCredit = Nw := rfl
theorem cred_wB : wB.view.dmaCredit = Nw := rfl
theorem cred_h (k : Fin 3) (h : Fin 2) : (wHf k h).view.dmaCredit = Nh := rfl
theorem cred_i (k : Fin 3) : (iSl k).view.dmaCredit = Nr := rfl
theorem cred_o (k : Fin 3) : (oSl k).view.dmaCredit = Nr := rfl
theorem cred_s (t : Fin 4) : xS.view.dmaCredit = amt 16 := rfl

/-! ## What the payments hand over -/

/-- The part of the three weight slots that the device paying duty `d` will write. -/
def wFor (d : Fin 3) : Finset cc0_scratch0.ty.Idx := match d with
  | 0 => (rcW 1).set ∪ (rcH 2 1).set | 1 => (rcW 0).set ∪ (rcH 2 0).set | 2 => ∅
/-- The payer of duty `d` of `c`'s barrier. -/
def payer (d : Fin 3) (c : Dev nD) : Dev nD := match d with | 0 => lft c | 1 => rgt c | 2 => dia c
/-- Duty `d` of `c`'s barrier hands `c` the parts of the payer's buffers that `c` will write. -/
def barPay (c : Dev nD) (d : Fin 3) : sProp 𝕄 := match d with
  | 0 => iprop((∃ f, atW (lft c) (rcW 1).set fullShare f) ∗ (∃ f, atW (lft c) (rcH 2 1).set fullShare f) ∗ ∃ f, atI (lft c) (rcR 1).set f)
  | 1 => iprop((∃ f, atW (rgt c) (rcW 0).set fullShare f) ∗ (∃ f, atW (rgt c) (rcH 2 0).set fullShare f) ∗ ∃ f, atI (rgt c) (rcR 0).set f)
  | 2 => iprop(∃ f, atI (dia c) (rcR 2).set f)
/-- Round `r` of semaphore `q` of device `c` hands `c` this. -/
def dmaPay (c : Dev nD) (q : ℕ) (r : ℕ) : sProp 𝕄 := match q with
  | 2 => atB c fullShare.right.left (wBf m ρ c)
  | 3 => atB c fullShare.right.right (wBf m ρ c)
  | 4 => atW c (rcH 0 0).set fullShare.right (wAll m ρ c)
  | 5 => atW c (rcH 1 1).set fullShare.right (wAll m ρ c)
  | 6 => atW c (rcW 0).set fullShare (wAll m ρ c)
  | 7 => atW c (rcW 1).set fullShare (wAll m ρ c)
  | 8 => atW c (rcH 2 0).set fullShare (wAll m ρ c)
  | 9 => atW c (rcH 2 1).set fullShare (wAll m ρ c)
  | 10 => atO c (rcR 0).set (rOut m ρ c)
  | 11 => atO c (rcR 1).set (rOut m ρ c)
  | 12 => atO c (rcR 2).set (rOut m ρ c)
  | 13 => atI c (rcR 0).set (rIn m ρ c)
  | 14 => atI c (rcR 1).set (rIn m ρ c)
  | 15 => atI c (rcR 2).set (rIn m ρ c)
  | _ => iprop(atS c (strip m ρ c (if h : r < 4 then ⟨r, h⟩ else 0)) ∗ atX c (rcX (if h : r < 4 then ⟨r, h⟩ else 0)).set fullShare (xIn m ρ c))

instance barPay_storable (c : Dev nD) (d : Fin 3) : BI.Storable (upEmb : UEmb _ 𝕄) (barPay (F := F) c d) := by
  unfold barPay; split <;> infer_instance
instance dmaPay_storable (c : Dev nD) (q r : ℕ) : BI.Storable (upEmb : UEmb _ 𝕄) (dmaPay (F := F) m ρ c q r) := by
  unfold dmaPay; split <;> infer_instance

/-! ## The schedule -/

/-- Which rounds of semaphore `q` are paid: the first; of the staging copies' semaphore, four. -/
abbrev Live (q : Fin 17) (r : ℕ) : Prop := 2 ≤ q.val ∧ (r = 0 ∨ (q.val = 16 ∧ r < 4))

def Rd : Rounds.Schedule (GSem nD τ sig) (Fin 3) 𝕄 where
  duties g r := match g.2 with
    | .reg _ => if g.1.2 = .tc ∧ r = 0 then Finset.univ else ∅
    | .dma q => if g.1.2 = .tc ∧ Live q r then {0} else ∅
  unitless _ := False
  amount g _ _ := match g.2 with | .reg _ => 1 | .dma q => amt q
  payload g r d := match g.2 with | .reg _ => barPay g.1.1 d | .dma q => dmaPay m ρ g.1.1 q.val r
  amount_pos g _ _ _ := by split; · exact Nat.one_pos
                           exact amt_pos _

instance Rd_payload_storable (g : GSem nD τ sig) (r : ℕ) (d : Fin 3) : BI.Storable (upEmb : UEmb _ 𝕄) ((Rd (F := F) m ρ).payload g r d) := by
  show BI.Storable upEmb (match g.2 with | .reg _ => barPay g.1.1 d | .dma q => dmaPay m ρ g.1.1 q.val r)
  split <;> infer_instance

section Sched
variable (c : Dev nD) (q : Fin 17) (r : ℕ)

theorem duties_bar : (Rd (F := F) m ρ).duties (barCell c) 0 = Finset.univ := by dsimp only [Rd]; exact if_pos ⟨rfl, rfl⟩
theorem duties_dma (h : Live q r) : (Rd (F := F) m ρ).duties (dCell c q) r = {0} := by dsimp only [Rd]; exact if_pos ⟨rfl, h⟩
theorem duties_bar_later : ∀ r, 1 ≤ r → (Rd (F := F) m ρ).duties (barCell c) r = ∅ := fun r hr => by dsimp only [Rd]; exact if_neg fun h => by omega
theorem duties_dma_later (h : q.val ≠ 16) : ∀ r, 1 ≤ r → (Rd (F := F) m ρ).duties (dCell c q) r = ∅ :=
  fun r hr => by dsimp only [Rd]; exact if_neg fun h' => by rcases h'.2.2 with h1 | h1 <;> omega
theorem duties_stage_later : ∀ r, 4 ≤ r → (Rd (F := F) m ρ).duties (dCell c 16) r = ∅ :=
  fun r hr => by dsimp only [Rd]; exact if_neg fun h' => by rcases h'.2.2 with h1 | h1 <;> omega
theorem amount_bar (d : Fin 3) : (Rd (F := F) m ρ).amount (barCell c) 0 d = 1 := rfl
theorem amount_dma (d : Fin 3) : (Rd (F := F) m ρ).amount (dCell c q) r d = amt q := rfl
theorem payload_bar (d : Fin 3) : (Rd (F := F) m ρ).payload (barCell c) 0 d = barPay c d := rfl
theorem payload_dma (d : Fin 3) : (Rd (F := F) m ρ).payload (dCell c q) r d = dmaPay m ρ c q.val r := rfl

theorem expect_bar : (Rd (F := F) m ρ).expect (barCell c) 0 = 3 := by
  unfold Schedule.expect Schedule.amountOf
  rw [duties_bar, Finset.sum_congr rfl fun d _ => amount_bar m ρ c d]; rfl
theorem expect_dma (h : Live q r) : (Rd (F := F) m ρ).expect (dCell c q) r = amt q := by
  unfold Schedule.expect Schedule.amountOf; rw [duties_dma m ρ c q r h, Finset.sum_singleton, amount_dma]

theorem rest_bar : bigSep ((Rd (F := F) m ρ).duties (barCell c) 0 \ ∅) (fun d => (Rd (F := F) m ρ).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton]
  rfl
theorem rest_dma (h : Live q r) : bigSep ((Rd (F := F) m ρ).duties (dCell c q) r \ ∅) (fun d => (Rd (F := F) m ρ).payload (dCell c q) r d)
    = dmaPay m ρ c q.val r := by
  rw [Finset.sdiff_empty, duties_dma m ρ c q r h, bigSep_singleton, payload_dma]

end Sched

/-! ## What a device owes, in the order it pays; levels -/

/-- The cell that the `i`-th payment to another device goes to. -/
def dueSem (i : Fin 10) : SemLoc sig := match i with
  | 0 | 1 | 2 => .reg barS | 3 => .dma (6 : Fin 17) | 4 => .dma (7 : Fin 17) | 5 => .dma (8 : Fin 17) | 6 => .dma (14 : Fin 17)
  | 7 => .dma (9 : Fin 17) | 8 => .dma (13 : Fin 17) | 9 => .dma (15 : Fin 17)
/-- The device it goes to. -/
def dueDev (i : Fin 10) (c : Dev nD) : Dev nD := match i with
  | 0 | 4 | 6 | 7 => lft c | 1 | 3 | 5 | 8 => rgt c | 2 | 9 => dia c
/-- Its amount. -/
def dueAmt (i : Fin 10) : ℕ := match dueSem i with | .reg _ => 1 | .dma q => amt q
abbrev dueCell (i : Fin 10) (c : Dev nD) : GSem nD τ sig := ((dueDev i c : Thread nD τ), dueSem i)

/-- What is owed when the payments `l` are left. -/
def owe (c : Dev nD) : List (Fin 10) → CellTallies nD τ sig Unit
  | [] => 0
  | i :: l => owe c l + tallyAt (dueCell i c) () (dueAmt i)

/-- All ten payments. -/
abbrev allDues : List (Fin 10) := [0, 1, 2, 3, 4, 5, 6, 7, 8, 9]
def O₀ (c : Dev nD) : CellTallies nD τ sig Unit := owe c allDues

def L (g : GSem nD τ sig) : Finset Unit := if g.1.2 = .tc then {()} else ∅
/-- The level of a semaphore: a device waits only where what it still owes lies strictly above. -/
def lvS (s : SemLoc sig) : ℕ := match s with
  | .reg _ => 1
  | .dma q => if q.val = 6 ∨ q.val = 7 then 2 else if q.val = 8 ∨ q.val = 9 then 3 else if 13 ≤ q.val ∧ q.val ≤ 15 then 4 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {l : List (Fin 10)} {g : GSem nD τ sig} {u : Unit} (h : 0 < owe c l g u) : ∃ i ∈ l, g = dueCell i c := by
  induction l with
  | nil => exact absurd h (Nat.lt_irrefl 0)
  | cons i l ih =>
    unfold owe at h
    rw [Pi.add_apply, Finsupp.add_apply, tallyAt_apply] at h
    by_cases h' : g = dueCell i c
    · exact ⟨i, List.mem_cons_self, h'⟩
    · rw [if_neg (fun hh => h' hh.1), Nat.add_zero] at h
      obtain ⟨k, hk, e⟩ := ih h
      exact ⟨k, List.mem_cons_of_mem _ hk, e⟩

theorem mayWait (c : Dev nD) (sm : SemLoc sig) (l : List (Fin 10)) (hl : ∀ i ∈ l, lvS sm < lvS (dueSem i)) :
    (levAts L lv : sProp 𝕄) ⊢ MayWait (c : Thread nD τ) sm () (owe c l) :=
  MayOwe.of_cut (L := L) (lev := lv) (lvS sm) (fun p hp => by rw [Finset.mem_singleton.mp hp, L_tc]; exact Finset.mem_singleton_self _)
    (fun g u hg => by obtain ⟨i, hi, rfl⟩ := owe_pos hg; exact Finset.mem_singleton_self _)
    (fun p hp => by rw [Finset.mem_singleton.mp hp]; exact le_refl _)
    (fun g u hg => by obtain ⟨i, hi, rfl⟩ := owe_pos hg; exact hl i hi)

end Cert.Exchange

end
-- ==== Proof.Values.lean ====
/-
The values the kernel computes and sends, against what the schedule says every buffer holds: each stored
payload, and each transfer's source, is what a view of the destination reads off the destination's final
contents.
-/
module

public import proofs.«01_k».proof.Proof.Protocol

@[expose] public section

noncomputable section

namespace Cert.Exchange

open Cert.KernelIdeal Cert.KernelIdeal.Gen
open Idealize.ShloMosaic Idealize.ShloMosaic.TcCoe
open Idealize.ShloMosaic.ValueIdx

variable {F : FTy → Type} [FloatOps F]
variable (m : (ℓ : Loc nD τ sig) → Buf (Elt F) ℓ) (ρ : Dev nD → PrngReg)

/-- Two arrays with two axes are equal if they agree at every row and column. -/
theorem ext2 {α : Type} {a b : ℕ} {f g : (⟨2, ![a, b]⟩ : Shape).Idx → α} (h : ∀ x y, f (ix2 x y) = g (ix2 x y)) : f = g := by
  funext i
  have e : i = ix2 (i 0) (i 1) := by funext k; fin_cases k <;> rfl
  rw [e]; exact h _ _
/-- The same with one more leading axis of a single element. -/
theorem ext3 {α : Type} {a b : ℕ} {f g : (⟨3, ![1, a, b]⟩ : Shape).Idx → α} (h : ∀ x y, f (ix3 0 x y) = g (ix3 0 x y)) : f = g := by
  funext i
  have e : i = ix3 0 (i 1) (i 2) := by
    funext k; fin_cases k
    · exact Fin.ext (by have := (i 0).isLt; simp at this ⊢; omega)
    · rfl
    · rfl
  rw [e]; exact h _ _

/-! ## The roundings -/

theorem pay1_eq (c : Dev nD) : k0_pay1 (wIn m ρ c) = wBf m ρ c := by
  unfold k0_pay1 wBf; simp only [shapeCast_self]

theorem pay_strip (c : Dev nD) (t : Fin 4) :
    (xB.access (rcX t) : View sig .tc _ _ _).read (Elt F) (xBf m ρ c)
      = truncf .bf16 (strip m ρ c t : FVec F S256x4096 .f32) bitsLt_bf16_f32 := by
  refine ext2 fun x y => ?_
  rw [read_accX]
  show FloatOps.truncf _ _ _ = FloatOps.truncf _ _ _
  unfold strip
  rw [read_xSt]
theorem pay2_eq (c : Dev nD) : (xB.access (rcX 0) : View sig .tc _ _ _).read (Elt F) (xBf m ρ c) = k0_pay2 (strip m ρ c 0) := by
  rw [pay_strip]; unfold k0_pay2; simp only [shapeCast_self]
theorem pay3_eq (c : Dev nD) : (xB.access (rcX 1) : View sig .tc _ _ _).read (Elt F) (xBf m ρ c) = k0_pay3 (strip m ρ c 1) := by
  rw [pay_strip]; unfold k0_pay3; simp only [shapeCast_self]
theorem pay4_eq (c : Dev nD) : (xB.access (rcX 2) : View sig .tc _ _ _).read (Elt F) (xBf m ρ c) = k0_pay4 (strip m ρ c 2) := by
  rw [pay_strip]; unfold k0_pay4; simp only [shapeCast_self]
theorem pay5_eq (c : Dev nD) : (xB.access (rcX 3) : View sig .tc _ _ _).read (Elt F) (xBf m ρ c) = k0_pay5 (strip m ρ c 3) := by
  rw [pay_strip]; unfold k0_pay5; simp only [shapeCast_self]

/-! ## The weights on their way -/

theorem land_w (c d : Dev nD) (k : Fin 3) (h : src k d = c) :
    (wSl k).view.read (Elt F) (wAll m ρ d) = wB.view.read (Elt F) (wBf m ρ c) := by
  refine ext2 fun x y => ?_
  rw [read_wSl]
  show wBf m ρ (src k d) (ix2 x y) = _
  rw [h]; rfl
theorem land_h (c d : Dev nD) (k : Fin 3) (h : Fin 2) (e : src 2 d = src k c) :
    (wHf 2 h).view.read (Elt F) (wAll m ρ d) = (wHf k h).view.read (Elt F) (wAll m ρ c) := by
  refine ext2 fun x y => ?_
  rw [read_wHf, read_wHf]
  show wBf m ρ (src 2 d) (ix2 x _) = wBf m ρ (src k c) (ix2 x _)
  rw [e]; rfl

/-! ## The products -/

/-- A loaded weight slot, as a matrix, is the device's columns it came from. -/
theorem slot_w (c : Dev nD) (k : Fin 3) :
    shapeCast S4096x512 ((wI.access (rcW k) : View sig .tc _ _ _).read (Elt F) (wAll m ρ c) : Vec F S1x4096x512 .bf16) shapeCasts_S1x4096x512_S4096x512
      = wBf m ρ (src k c) := by
  refine ext2 fun x y => ?_
  rw [shapeCast_1ab_ab_apply, read_accW]; rfl

theorem slot_o (c : Dev nD) (k : Fin 3) :
    (rO.access (rcR k) : View sig .tc _ _ _).read (Elt F) (rOut m ρ c)
      = shapeCast S1x1024x512 (prodB m ρ c (tgt k c)) shapeCasts_S1024x512_S1x1024x512 := by
  refine ext3 fun x y => ?_
  rw [read_accO, shapeCast_ab_1ab_apply]; rfl

theorem pay7_eq (c : Dev nD) : (rO.access (rcR 1) : View sig .tc _ _ _).read (Elt F) (rOut m ρ c)
    = k0_pay7 ((wI.access (rcW 0) : View sig .tc _ _ _).read (Elt F) (wAll m ρ c)) (xBf m ρ c) :=
  (slot_o m ρ c 1).trans (congrArg (fun w => shapeCast S1x1024x512 (truncf .bf16 (k0_pay6 (xBf m ρ c) w) bitsLt_bf16_f32)
    shapeCasts_S1024x512_S1x1024x512) (slot_w m ρ c 0).symm)
theorem pay8_eq (c : Dev nD) : (rO.access (rcR 0) : View sig .tc _ _ _).read (Elt F) (rOut m ρ c)
    = k0_pay8 ((wI.access (rcW 1) : View sig .tc _ _ _).read (Elt F) (wAll m ρ c)) (xBf m ρ c) :=
  (slot_o m ρ c 0).trans (congrArg (fun w => shapeCast S1x1024x512 (truncf .bf16 (k0_pay6 (xBf m ρ c) w) bitsLt_bf16_f32)
    shapeCasts_S1024x512_S1x1024x512) (slot_w m ρ c 1).symm)
theorem pay9_eq (c : Dev nD) :
    k0_pay9 ((wI.access (rcW 2) : View sig .tc _ _ _).read (Elt F) (wAll m ρ c)) (xBf m ρ c) = prodB m ρ c (tgt 2 c) :=
  congrArg (fun w => truncf .bf16 (k0_pay6 (xBf m ρ c) w) bitsLt_bf16_f32) (slot_w m ρ c 2)
theorem pay10_eq (c : Dev nD) : (rO.access (rcR 2) : View sig .tc _ _ _).read (Elt F) (rOut m ρ c) = k0_pay10 (prodB m ρ c (tgt 2 c)) := by
  rw [slot_o]; rfl

theorem land_r (c d : Dev nD) (k : Fin 3) (h1 : src k d = c) (h2 : tgt k c = d) :
    (iSl k).view.read (Elt F) (rIn m ρ d) = (oSl k).view.read (Elt F) (rOut m ρ c) := by
  refine ext2 fun x y => ?_
  rw [read_iSl, read_oSl]
  show prodB m ρ (src k d) d (ix2 x y) = prodB m ρ c (tgt k c) (ix2 x y)
  rw [h1, h2]

/-! ## The result's row blocks -/

theorem rows_out (c d : Dev nD) (n : Fin 4096) (x : Fin 1024) (y : Fin 512) (hn : n.val = 1024 * d.val + x.val) :
    outAt m ρ c (ix2 n y) = if d = c then prod m ρ c c (ix2 x y) else extf .f32 (prodB m ρ d c) bitsLt_bf16_f32 (ix2 x y) := by
  have h1 : rowDev n = d := Fin.ext (by show n.val / 1024 = d.val; omega)
  have h2 : rowIn n = x := Fin.ext (by show n.val % 1024 = x.val; omega)
  show (if rowDev n = c then prod m ρ c c (ix2 (rowIn n) y) else extf .f32 (prodB m ρ (rowDev n) c) bitsLt_bf16_f32 (ix2 (rowIn n) y)) = _
  rw [h1, h2]

theorem own_rows (c : Dev nD) : (oS.access (rcO c) : View sig .tc _ _ _).read (Elt F) (outAt m ρ c) = k0_pay6 (xBf m ρ c) (wBf m ρ c) := by
  refine ext2 fun x y => ?_
  rw [read_accR, rows_out m ρ c c _ x y rfl, if_pos rfl]; rfl
theorem other_rows (c : Dev nD) (k : Fin 3) (h : src k c ≠ c) :
    (oS.access (rcO (src k c)) : View sig .tc _ _ _).read (Elt F) (outAt m ρ c)
      = extf .f32 (shapeCast S1024x512 ((rI.access (rcR k) : View sig .tc _ _ _).read (Elt F) (rIn m ρ c) : Vec F S1x1024x512 .bf16)
          shapeCasts_S1x1024x512_S1024x512) bitsLt_bf16_f32 := by
  refine ext2 fun x y => ?_
  rw [read_accR, rows_out m ρ c (src k c) _ x y rfl, if_neg h]
  show FloatOps.extf _ _ _ = FloatOps.extf _ _ _
  rw [shapeCast_1ab_ab_apply, read_accI]; rfl
theorem src_ne (c : Dev nD) (k : Fin 3) : src k c ≠ c := by revert c k; decide
theorem pay11_eq (c : Dev nD) : (oS.access (rcO (src 0 c)) : View sig .tc _ _ _).read (Elt F) (outAt m ρ c)
    = k0_pay11 ((rI.access (rcR 0) : View sig .tc _ _ _).read (Elt F) (rIn m ρ c)) := by
  rw [other_rows m ρ c 0 (src_ne c 0)]; rfl
theorem pay12_eq (c : Dev nD) : (oS.access (rcO (src 1 c)) : View sig .tc _ _ _).read (Elt F) (outAt m ρ c)
    = k0_pay12 ((rI.access (rcR 1) : View sig .tc _ _ _).read (Elt F) (rIn m ρ c)) := by
  rw [other_rows m ρ c 1 (src_ne c 1)]; rfl
theorem pay13_eq (c : Dev nD) : (oS.access (rcO (src 2 c)) : View sig .tc _ _ _).read (Elt F) (outAt m ρ c)
    = k0_pay13 ((rI.access (rcR 2) : View sig .tc _ _ _).read (Elt F) (rIn m ρ c)) := by
  rw [other_rows m ρ c 2 (src_ne c 2)]; rfl

/-! ## Filling a buffer part by part -/

/-- A write of what a view reads off `G` to a buffer that agrees with `G` on `D` makes it agree on the view's elements too. -/
theorem fill {κ : Kind} {sp : Space} {s : Shape} {e : EltTy} (v : View sig κ sp s e) (f G : v.ty.Contents (Elt F))
    (w : s.Idx → Elt F e) (D : Finset v.ty.Idx) (h : v.read (Elt F) G = w) (hf : ∀ i ∈ D, f i = G i) :
    ∀ i ∈ D ∪ v.set, v.write (Elt F) f w Finset.univ i = G i := by
  intro i hi
  by_cases hv : i ∈ v.set
  · exact write_eq_of_read v f G w h i hv
  · rw [View.write_of_not_mem _ _ _ (by rwa [View.setOn_univ])]
    exact hf i ((Finset.mem_union.mp hi).resolve_right hv)

theorem strips_all : ((∅ ∪ (rcX 0).set) ∪ (rcX 1).set ∪ (rcX 2).set) ∪ (rcX 3).set = Finset.univ := by
  refine Finset.eq_univ_iff_forall.mpr fun i => ?_
  have := (i 0).isLt
  simp only [S1024x4096] at this
  simp only [Finset.mem_union, mem_rcX, Finset.notMem_empty] at *
  simp at *; omega
theorem rows_all (c : Dev nD) : ((∅ ∪ (rcO c).set) ∪ (rcO (src 0 c)).set ∪ (rcO (src 1 c)).set) ∪ (rcO (src 2 c)).set = Finset.univ := by
  refine Finset.eq_univ_iff_forall.mpr fun i => ?_
  have := (i 0).isLt
  simp only [S4096x512] at this
  have h : c.val = 0 ∨ c.val = 1 ∨ c.val = 2 ∨ c.val = 3 := by have := c.isLt; have : c.val < 4 := this; omega
  simp only [Finset.mem_union, mem_rcO, Finset.notMem_empty, src, lft, rgt, dia] at *
  simp at *
  rcases h with h | h | h | h <;> rw [h] <;> simp <;> omega

end Cert.Exchange

end
-- ==== Proof.Steps.lean ====
/-
The kernel's effects under the exchange's schedule, one rule per kind: a barrier signal, a transfer to
another device, a staging copy, a wait on one of the kernel's own semaphores.
-/
module

public import proofs.«01_k».proof.Proof.Values

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 16 → ℕ)

abbrev 𝒱₀ : Variants := Variants.none

/-- Every cell's invariant, and that every cell has reached round 0. -/
def records : sProp 𝕄 :=
  iprop((bigSep Finset.univ fun ck : Dev nD × Fin 16 => cellInv ER (Rd m ρ) (K ck) (kcell ck))
    ∗ bigSep Finset.univ fun ck : Dev nD × Fin 16 => reached ER (kcell ck) 0)

instance records_persistent : BI.Persistent (records m ρ K) := by unfold records; infer_instance

/-- What a device still owes, whatever it has waited for so far. -/
def dues (c : Dev nD) (l : List (Fin 10)) : sProp 𝕄 := iprop(∃ W : Waits sig Unit, owes (c : Thread nD τ) (owe c l) W)

/-- A cell's index among its device's sixteen. -/
def cix (q : Fin 17) : Fin 16 := ⟨q.val - 1, by omega⟩
theorem csem_cix (q : Fin 17) (h : 2 ≤ q.val) : csem (cix q) = .dma q := by
  revert h; revert q; decide
theorem csem_zero : csem 0 = .reg barS := rfl

theorem inv_bar (c : Dev nD) : records m ρ K ⊢ cellInv ER (Rd m ρ) (K (c, 0)) (barCell c) := by
  unfold records
  exact sep_elim_left.trans (bigSep_elim (Finset.mem_univ (c, (0 : Fin 16))))
theorem reach_bar (c : Dev nD) : records m ρ K ⊢ reached ER (barCell c) 0 := by
  unfold records
  exact sep_elim_right.trans (bigSep_elim (Finset.mem_univ (c, (0 : Fin 16))))
theorem inv_dma (c : Dev nD) (q : Fin 17) (h : 2 ≤ q.val) : records m ρ K ⊢ cellInv ER (Rd m ρ) (K (c, cix q)) (dCell c q) := by
  have e : dCell c q = kcell (c, cix q) := by rw [kcell, csem_cix q h]
  rw [e]; unfold records
  exact sep_elim_left.trans (bigSep_elim (Finset.mem_univ (c, cix q)))
theorem reach_dma (c : Dev nD) (q : Fin 17) (h : 2 ≤ q.val) : records m ρ K ⊢ reached ER (dCell c q) 0 := by
  have e : dCell c q = kcell (c, cix q) := by rw [kcell, csem_cix q h]
  rw [e]; unfold records
  exact sep_elim_right.trans (bigSep_elim (Finset.mem_univ (c, cix q)))

/-- A program run on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section

/-- A wait on one of the kernel's own semaphores for the whole of its open round: the round's payment. -/
theorem step_wait {α : Type} {Q : α → sProp 𝕄} (c : Dev nD) (q : Fin 17) (r : ℕ) (l : List (Fin 10)) (h : Live q r) (hl : ∀ i ∈ l, lvS (.dma q) < lvS (dueSem i)) {sq : Fin 17} (hsq : sq = q)
    {sp sp' : Space} {s s' : Shape} {e e' : EltTy} {ss : Memref sig .tc sp' s' e'} {dd : Memref sig .tc sp s e}
    {hs : ss.view.WordExact} {hd : dd.view.WordExact} {k : PUnit → Prog (TpuEff nD τ sig (Elt F) Λ₀ .tc) α}
    (hN : dd.view.dmaCredit = amt q) :
    iprop(records m ρ K ∗ levAts L lv ∗ cred (tallyAt (dCell c q) () (amt q)) ∗ dues c l ∗ atPos ER (dCell c q) r ∅ 0)
      ⊢ iprop(((dues c l ∗ atPos ER (dCell c q) (r + 1) ∅ 0 ∗ reached ER (dCell c q) (r + 1) ∗ dmaPay m ρ c q.val r) -∗ WP c (k ⟨⟩) Q)
          -∗ WP c (.op (.waitDma2 sq ss dd hs hd) k) Q) := by
  have hsq' := hsq.symm; subst hsq'
  unfold dues
  iintro ⟨#HR, #Hlev, Hc, ⟨%W, HO⟩, Hat⟩ Hk
  iapply (Rounds.wp_wait_rest_token 𝒱₀ ER (Rd m ρ) (c : Thread nD τ) none (κ := K (c, cix q)) (sm := .dma q) (k' := dd.view.dmaCredit)
      (wpE_waitDma2_eq 𝒱₀ (c : Thread nD τ) none Set.univ) (Set.mem_univ _) () (O := owe c l) (W := W) (R := r) (m := 0) (T := ∅)
      (by rw [Nat.zero_add, hN]; exact (expect_dma m ρ c q r h).symm)) $$ [Hc HO Hat]
  · isplitr; · iapply (inv_dma m ρ K c q h.1); iexact HR
    isplitl [Hc]; · rw [hN]; iexact Hc
    isplitl [HO]; · iexact HO
    isplitr; · iapply (mayWait c (.dma q) l hl); iexact Hlev
    iexact Hat
  iintro ⟨HO, Hat, Hr, Hpay⟩
  ihave Hp := (Entails.of_eq (rest_dma m ρ c q r h)) $$ Hpay
  iapply Hk
  isplitl [HO]; · iexists _; iexact HO
  isplitl [Hat]; · iexact Hat
  isplitl [Hr]; · iexact Hr
  iexact Hp

/-- A barrier signal that pays the next due: the parts of its own buffers that the signalled device will write. -/
theorem step_signal {α : Type} {Q : α → sProp 𝕄} (c n : Dev nD) (i : Fin 10) (hn : n = dueDev i c) (l : List (Fin 10)) (d : Fin 3) (hi : dueSem i = .reg barS)
    {k : PUnit → Prog (TpuEff nD τ sig (Elt F) Λ₀ .tc) α} :
    iprop(records m ρ K ∗ dues c (i :: l) ∗ dutyTok ER (barCell (dueDev i c)) 0 d ∗ barPay (dueDev i c) d)
      ⊢ iprop((dues c l -∗ WP c (k ⟨⟩) Q) -∗ WP c (.op (.semSignal (n : Thread nD τ) barS (1#32 : BitVec 32).toInt) k) Q) := by
  subst hn
  have hO : owe c (i :: l) = owe c l + tallyAt (barCell (dueDev i c)) () 1 := by
    show owe c l + tallyAt (dueCell i c) () (dueAmt i) = _
    unfold dueCell dueAmt; rw [hi]
  unfold dues
  iintro ⟨#HR, ⟨%W, HO⟩, Ht, Hp⟩ Hk
  iapply (Rounds.wp_signal 𝒱₀ ER (Rd m ρ) (c : Thread nD τ) none (dst := (dueDev i c : Thread nD τ)) (sem := barS) (r := 0) (κ := K (dueDev i c, 0))
      (d := d) (k' := 1) (by rw [duties_bar]; exact Finset.mem_univ _) (amount_bar m ρ (dueDev i c) d) () (owe c l) hO) $$ [HO Ht Hp]
  · isplitr; · iapply (inv_bar m ρ K (dueDev i c)); iexact HR
    isplitl [HO]; · iexact HO
    isplitl [Ht]; · iexact Ht
    isplitl [Hp]; · rw [payload_bar]; iexact Hp
    iapply (reach_bar m ρ K (dueDev i c)); iexact HR
  iintro HO
  iapply Hk
  iexists W; iexact HO

/-- The barrier wait: the three devices' parts that this device will write. -/
theorem step_barrier {α : Type} {Q : α → sProp 𝕄} (c : Dev nD) (l : List (Fin 10)) (hl : ∀ i ∈ l, lvS (.reg barS) < lvS (dueSem i))
    {k : PUnit → Prog (TpuEff nD τ sig (Elt F) Λ₀ .tc) α} {n : Int} (hn : n = 3) :
    iprop(records m ρ K ∗ levAts L lv ∗ cred (tallyAt (barCell c) () 3) ∗ dues c l ∗ atPos ER (barCell c) 0 ∅ 0)
      ⊢ iprop(((dues c l ∗ atPos ER (barCell c) 1 ∅ 0 ∗ barPay c 0 ∗ barPay c 1 ∗ barPay c 2) -∗ WP c (k ⟨⟩) Q)
          -∗ WP c (.op (.semWait barS n) k) Q) := by
  subst hn
  unfold dues
  iintro ⟨#HR, #Hlev, Hc, ⟨%W, HO⟩, Hat⟩ Hk
  iapply (Rounds.wp_wait_rest_token 𝒱₀ ER (Rd m ρ) (c : Thread nD τ) none (κ := K (c, 0)) (sm := .reg barS) (k' := 3)
      (wpE_semWait_eq 𝒱₀ (c : Thread nD τ) none Set.univ) (Set.mem_univ _) () (O := owe c l) (W := W) (R := 0) (m := 0) (T := ∅)
      (by rw [expect_bar])) $$ [Hc HO Hat]
  · isplitr; · iapply (inv_bar m ρ K c); iexact HR
    isplitl [Hc]; · iexact Hc
    isplitl [HO]; · iexact HO
    isplitr; · iapply (mayWait c (.reg barS) l hl); iexact Hlev
    iexact Hat
  iintro ⟨HO, Hat, -, Hpay⟩
  ihave Hp := (Entails.of_eq (rest_bar m ρ c)) $$ Hpay
  iapply Hk
  isplitl [HO]; · iexists _; iexact HO
  isplitl [Hat]; · iexact Hat
  iexact Hp

/-- A staging copy: strip `t` of the device's rows of `x` goes to the strip buffer. -/
theorem step_copy {α : Type} {Q : α → sProp 𝕄} (c : Dev nD) (t : Fin 4)
    {hs : (xSt t).view.WordExact} {hd : xS.view.WordExact} {hty : DmaTarget.Typed (nD := nD) (p := (Dev.tc c : Thread nD τ).2) .hbm (.dma (16 : Fin 17)) (.here xS)}
    {k : PUnit → Prog (TpuEff nD τ sig (Elt F) Λ₀ .tc) α} :
    iprop(records m ρ K ∗ atX c (rcX t).set fullShare (xIn m ρ c) ∗ (∃ f, atS c f) ∗ dutyTok ER (dCell c 16) t.val 0 ∗ reached ER (dCell c 16) t.val)
      ⊢ iprop((cred (tallyAt (dCell c 16) () (amt 16)) -∗ WP c (k ⟨⟩) Q)
          -∗ WP c (.op (.enqueueDma (xSt t) (.here xS) (.dma (16 : Fin 17)) hs hd hty) k) Q) := by
  have hp : ∀ fd : cc0_scratch5.ty.Contents (Elt F),
      iprop(((xS.view.loc (c : Thread nD τ)) ↦[xS.view.set]{fullShare} (xS.view.write (Elt F) fd ((xSt t).view.read (Elt F) (xIn m ρ c)) Finset.univ))
        ∗ (((xSt t).view.loc (c : Thread nD τ)) ↦[(xSt t).view.set]{fullShare} (xIn m ρ c))) ⊢ (Rd m ρ).payload (dCell c 16) t.val 0 := by
    intro fd
    rw [payload_dma, set_xSt]
    show _ ⊢ iprop(atS c (strip m ρ c (if h : t.val < 4 then ⟨t.val, h⟩ else 0)) ∗ atX c (rcX (if h : t.val < 4 then ⟨t.val, h⟩ else 0)).set fullShare (xIn m ρ c))
    rw [dif_pos t.isLt]
    refine BI.sep_mono ?_ (BI.Entails.refl _)
    rw [show xS.view.write (Elt F) fd ((xSt t).view.read (Elt F) (xIn m ρ c)) Finset.univ = strip m ρ c t from View.write_whole_univ _ _ _, View.set_whole]
    exact BI.Entails.refl _
  iintro ⟨#HR, Hx, ⟨%fd, Hs⟩, Ht, Hr⟩ Hk
  iapply (Rounds.wp_copy_pointsTo 𝒱₀ ER (Rd m ρ) (c : Thread nD τ) none (src := xSt t) (dst := xS) (sem := .dma (16 : Fin 17)) (q := fullShare)
      (fs := xIn m ρ c) (fd := fd) (r := t.val) (d := 0) (κ := K (c, cix 16))
      (by rw [duties_dma m ρ c 16 t.val ⟨by decide, .inr ⟨rfl, t.isLt⟩⟩]; exact Finset.mem_singleton_self _) () (amt 16) (cred_s t)
      (amount_dma m ρ c 16 t.val 0) (hp fd)) $$ [Hx Hs Ht Hr]
  · isplitr; · iapply (inv_dma m ρ K c 16 (by decide)); iexact HR
    isplitl [Hx]; · rw [set_xSt]; iexact Hx
    isplitl [Hs]; · rw [View.set_whole]; iexact Hs
    isplitl [Ht] <;> iassumption
  iexact Hk

/-- A transfer to another device that pays the next due: its source comes back with the issuer's semaphore `qs`, its
destination with the receiver's semaphore `qr`. -/
theorem step_send {α : Type} {Q : α → sProp 𝕄} (c n : Dev nD) (i : Fin 10) (hn : n = dueDev i c) (l : List (Fin 10)) (qs qr : Fin 17) {ps pr : Fin 17} (hps : ps = qs) (hpr : pr = qr) (hi : dueSem i = .dma qr)
    (h2s : Live qs 0) (h2r : Live qr 0)
    {sp sp' : Space} {s : Shape} {e : EltTy} {ss : Memref sig .tc sp s e} {dd : Memref sig .tc sp' s e}
    {hsc : (show Memref sig (Dev.tc n : Thread nD τ).2.kind sp' s e from dd).view.ref.isScScratch = false}
    {hs : ss.view.WordExact} {hd : dd.view.WordExact}
    {hty : DmaTarget.Typed sp (.dma pr) (.remote (Dev.tc n : Thread nD τ) dd (.dma ps) hsc)}
    {k : PUnit → Prog (TpuEff nD τ sig (Elt F) Λ₀ .tc) α}
    (hN : dd.view.dmaCredit = amt qr) (hsr : amt qs = amt qr) (q : PosShare TreeShare) (fs : ss.view.ty.Contents (Elt F))
    (hp₁ : ((ss.view.loc (c : Thread nD τ)) ↦[ss.view.set]{q} fs : sProp 𝕄) ⊢ dmaPay m ρ c qs.val 0)
    (G : dd.view.ty.Contents (Elt F)) (hG : dd.view.read (Elt F) G = ss.view.read (Elt F) fs)
    (hp₂ : ((dd.view.loc (dueDev i c : Thread nD τ)) ↦[dd.view.set]{fullShare} G : sProp 𝕄) ⊢ dmaPay m ρ (dueDev i c) qr.val 0) :
    iprop(records m ρ K ∗ ((ss.view.loc (c : Thread nD τ)) ↦[ss.view.set]{q} fs)
        ∗ (∃ fd : dd.view.ty.Contents (Elt F), (dd.view.loc (dueDev i c : Thread nD τ)) ↦[dd.view.set]{fullShare} fd)
        ∗ dues c (i :: l) ∗ dutyTok ER (dCell c qs) 0 0 ∗ dutyTok ER (dCell (dueDev i c) qr) 0 0)
      ⊢ iprop(((cred (tallyAt (dCell c qs) () (amt qs)) ∗ dues c l) -∗ WP c (k ⟨⟩) Q)
          -∗ WP c (.op (.enqueueDma ss (.remote (Dev.tc n : Thread nD τ) dd (.dma ps) hsc) (.dma pr) hs hd hty) k) Q) := by
  subst hn; have hps' := hps.symm; subst hps'; have hpr' := hpr.symm; subst hpr'
  have hO : owe c (i :: l) = owe c l + tallyAt (dCell (dueDev i c) qr) () (amt qr) := by
    show owe c l + tallyAt (dueCell i c) () (dueAmt i) = _
    unfold dueCell dueAmt; rw [hi]
  unfold dues
  iintro ⟨#HR, Hs, ⟨%fd, Hd⟩, ⟨%W, HO⟩, Hts, Htr⟩ Hk
  iapply (Rounds.wp_send_pointsTo 𝒱₀ ER (Rd m ρ) (c : Thread nD τ) none (c' := (dueDev i c : Thread nD τ)) (κ₁ := K (c, cix qs)) (κ₂ := K (dueDev i c, cix qr))
      (src := ss) (dst := dd) (sS := .dma qs) (sem := .dma qr) (q := q) (fs := fs)
      (r₁ := 0) (r₂ := 0) (d₁ := 0) (d₂ := 0) (fd := fd)
      (by rw [duties_dma m ρ c qs 0 h2s]; exact Finset.mem_singleton_self _) (by rw [duties_dma m ρ _ qr 0 h2r]; exact Finset.mem_singleton_self _)
      () () (amt qr) hN ((amount_dma m ρ c qs 0 0).trans hsr) (amount_dma m ρ (dueDev i c) qr 0 0) (owe c l) hO (W := W)
      hp₁
      ((Entails.of_eq (pointsTo_congr (write_eq_of_read dd.view fd G _ hG))).trans hp₂)) $$ [Hs Hd HO Hts Htr]
  · isplitr; · iapply (inv_dma m ρ K c qs h2s.1); iexact HR
    isplitr; · iapply (inv_dma m ρ K (dueDev i c) qr h2r.1); iexact HR
    isplitl [Hs]; · iexact Hs
    isplitl [Hd]; · iexact Hd
    isplitl [HO]; · iexact HO
    isplitl [Hts]; · iexact Hts
    isplitr; · iapply (reach_dma m ρ K c qs h2s.1); iexact HR
    isplitl [Htr]; · iexact Htr
    iapply (reach_dma m ρ K (dueDev i c) qr h2r.1); iexact HR
  iintro ⟨Hc, HO⟩
  iapply Hk
  isplitl [Hc]; · rw [hsr]; iexact Hc
  iexists W; iexact HO

end

end Cert.Exchange

end
-- ==== Proof.Access.lean ====
/-
The kernel's loads and stores, one rule per buffer: what a load yields and what a store leaves, for contents that
are given for the whole buffer.
-/
module

public import proofs.«01_k».proof.Proof.Steps

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 16 → ℕ)

theorem zero2 : (![0, 0] : Fin 2 → ℕ) = fun _ => 0 := by funext a; fin_cases a <;> rfl

abbrev atWs (c : Dev nD) : sProp 𝕄 := ((c : Thread nD τ).loc cc0_stg0_0) ↦[Finset.univ]{fullShare} (wIn m ρ c)
abbrev atXb (c : Dev nD) (f : cc0_scratch3.ty.Contents (Elt F)) : sProp 𝕄 :=
  ((c : Thread nD τ).loc cc0_scratch3) ↦[Finset.univ]{fullShare} f
abbrev atOut (c : Dev nD) (f : cc0_stg1_0.ty.Contents (Elt F)) : sProp 𝕄 :=
  ((c : Thread nD τ).loc cc0_stg1_0) ↦[Finset.univ]{fullShare} f

/-- The buffer for the rounded rows of `x` has them on `D`. -/
def xHas (c : Dev nD) (D : Finset cc0_scratch3.ty.Idx) : sProp 𝕄 := iprop(∃ f, ⌜∀ i ∈ D, f i = xBf m ρ c i⌝ ∗ atXb c f)
/-- The result buffer has the result on `D`. -/
def oHas (c : Dev nD) (D : Finset cc0_stg1_0.ty.Idx) : sProp 𝕄 := iprop(∃ f, ⌜∀ i ∈ D, f i = outAt m ρ c i⌝ ∗ atOut c f)

theorem xHas_all (c : Dev nD) : xHas m ρ c (((∅ ∪ (rcX 0).set) ∪ (rcX 1).set ∪ (rcX 2).set) ∪ (rcX 3).set) ⊢ atXb c (xBf m ρ c) := by
  unfold xHas; rw [strips_all]
  iintro ⟨%f, %h, H⟩
  have e : f = xBf m ρ c := funext fun i => h i (Finset.mem_univ i)
  rw [e]; iexact H
theorem oHas_all (c : Dev nD) :
    oHas m ρ c (((∅ ∪ (rcO c).set) ∪ (rcO (src 0 c)).set ∪ (rcO (src 1 c)).set) ∪ (rcO (src 2 c)).set) ⊢ atOut c (outAt m ρ c) := by
  unfold oHas; rw [rows_all]
  iintro ⟨%f, %h, H⟩
  have e : f = outAt m ρ c := funext fun i => h i (Finset.mem_univ i)
  rw [e]; iexact H
theorem xHas_none (c : Dev nD) (f : cc0_scratch3.ty.Contents (Elt F)) : atXb c f ⊢ xHas m ρ c ∅ := by
  unfold xHas; iintro H; iexists f
  isplitr; · ipureintro; exact fun i hi => absurd hi (Finset.notMem_empty i)
  iexact H
theorem oHas_none (c : Dev nD) (f : cc0_stg1_0.ty.Contents (Elt F)) : atOut c f ⊢ oHas m ρ c ∅ := by
  unfold oHas; iintro H; iexists f
  isplitr; · ipureintro; exact fun i hi => absurd hi (Finset.notMem_empty i)
  iexact H

/-! ## Whole buffers -/

theorem load_ws {α : Type} {Q : α → sProp 𝕄} (c : Dev nD) {inb} {hl} {k : _ → Prog (TpuEff nD τ sig (Elt F) Λ₀ .tc) α} :
    atWs m ρ c ⊢ iprop((atWs m ρ c -∗ WP c (k (wIn m ρ c)) Q)
      -∗ WP c (.op (.load (p := (Dev.tc c : Thread nD τ).2) wS (Rect.unit (s := S4096x512) ![0, 0] S4096x512.size inb).toLoadRect hl) k) Q) := by
  have h := wp_load (Q := Q) (defs := defs₀ (F := F)) (Γ := PendingWaitsCtx.empty) 𝒱₀ (c : Thread nD τ) none Set.univ (m := wS) (r := (Rect.unit (s := S4096x512) ![0, 0] S4096x512.size inb).toLoadRect) (hl := hl) (k := k)
    (S := Finset.univ) (q := fullShare) (f := wIn m ρ c) (Finset.subset_univ _)
  rw [show wS.view.readAt (Elt F) (Rect.unit (s := S4096x512) ![0, 0] S4096x512.size inb).toLoadRect (wIn m ρ c) = wIn m ρ c from
    Memref.readAt_unit_zero (Elt F) cc0_stg0_0 zero2 inb _] at h
  exact h
theorem load_wb {α : Type} {Q : α → sProp 𝕄} (c : Dev nD) {inb} {hl} (q : PosShare TreeShare) (f : cc0_scratch4.ty.Contents (Elt F)) {k : _ → Prog (TpuEff nD τ sig (Elt F) Λ₀ .tc) α} :
    atB c q f ⊢ iprop((atB c q f -∗ WP c (k f) Q)
      -∗ WP c (.op (.load (p := (Dev.tc c : Thread nD τ).2) wB (Rect.unit (s := S4096x512) ![0, 0] S4096x512.size inb).toLoadRect hl) k) Q) := by
  have h := wp_load (Q := Q) (defs := defs₀ (F := F)) (Γ := PendingWaitsCtx.empty) 𝒱₀ (c : Thread nD τ) none Set.univ (m := wB) (r := (Rect.unit (s := S4096x512) ![0, 0] S4096x512.size inb).toLoadRect) (hl := hl) (k := k)
    (S := Finset.univ) (q := q) (f := f) (Finset.subset_univ _)
  rw [show wB.view.readAt (Elt F) (Rect.unit (s := S4096x512) ![0, 0] S4096x512.size inb).toLoadRect f = f from
    Memref.readAt_unit_zero (Elt F) cc0_scratch4 zero2 inb _] at h
  exact h
theorem load_xs {α : Type} {Q : α → sProp 𝕄} (c : Dev nD) {inb} {hl} (f : cc0_scratch5.ty.Contents (Elt F)) {k : _ → Prog (TpuEff nD τ sig (Elt F) Λ₀ .tc) α} :
    atS c f ⊢ iprop((atS c f -∗ WP c (k f) Q)
      -∗ WP c (.op (.load (p := (Dev.tc c : Thread nD τ).2) xS (Rect.unit (s := S256x4096) ![0, 0] S256x4096.size inb).toLoadRect hl) k) Q) := by
  have h := wp_load (Q := Q) (defs := defs₀ (F := F)) (Γ := PendingWaitsCtx.empty) 𝒱₀ (c : Thread nD τ) none Set.univ (m := xS) (r := (Rect.unit (s := S256x4096) ![0, 0] S256x4096.size inb).toLoadRect) (hl := hl) (k := k)
    (S := Finset.univ) (q := fullShare) (f := f) (Finset.subset_univ _)
  rw [show xS.view.readAt (Elt F) (Rect.unit (s := S256x4096) ![0, 0] S256x4096.size inb).toLoadRect f = f from
    Memref.readAt_unit_zero (Elt F) cc0_scratch5 zero2 inb _] at h
  exact h
theorem load_xb {α : Type} {Q : α → sProp 𝕄} (c : Dev nD) {inb} {hl} (f : cc0_scratch3.ty.Contents (Elt F)) {k : _ → Prog (TpuEff nD τ sig (Elt F) Λ₀ .tc) α} :
    atXb c f ⊢ iprop((atXb c f -∗ WP c (k f) Q)
      -∗ WP c (.op (.load (p := (Dev.tc c : Thread nD τ).2) xB (Rect.unit (s := S1024x4096) ![0, 0] S1024x4096.size inb).toLoadRect hl) k) Q) := by
  have h := wp_load (Q := Q) (defs := defs₀ (F := F)) (Γ := PendingWaitsCtx.empty) 𝒱₀ (c : Thread nD τ) none Set.univ (m := xB) (r := (Rect.unit (s := S1024x4096) ![0, 0] S1024x4096.size inb).toLoadRect) (hl := hl) (k := k)
    (S := Finset.univ) (q := fullShare) (f := f) (Finset.subset_univ _)
  rw [show xB.view.readAt (Elt F) (Rect.unit (s := S1024x4096) ![0, 0] S1024x4096.size inb).toLoadRect f = f from
    Memref.readAt_unit_zero (Elt F) cc0_scratch3 zero2 inb _] at h
  exact h
theorem store_wb {α : Type} {Q : α → sProp 𝕄} (c : Dev nD) {inb} {hx} {hm} (f w : cc0_scratch4.ty.Contents (Elt F)) {k : PUnit → Prog (TpuEff nD τ sig (Elt F) Λ₀ .tc) α} :
    atB c fullShare f ⊢ iprop((atB c fullShare w -∗ WP c (k ⟨⟩) Q)
      -∗ WP c (.op (.store (p := (Dev.tc c : Thread nD τ).2) wB (Rect.unit (s := S4096x512) ![0, 0] S4096x512.size inb) w Finset.univ hx hm) k) Q) := by
  have h := wp_store (Q := Q) (defs := defs₀ (F := F)) (Γ := PendingWaitsCtx.empty) 𝒱₀ (c : Thread nD τ) none Set.univ (m := wB) (r := Rect.unit (s := S4096x512) ![0, 0] S4096x512.size inb) (w := w) (Mk := Finset.univ) (hx := hx) (hm := hm) (k := k)
    (S := Finset.univ) (f := f) (Finset.subset_univ _)
  rw [show (wB.access (Rect.unit (s := S4096x512) ![0, 0] S4096x512.size inb) : View sig .tc _ _ _).write (Elt F) f w Finset.univ = w from
    Memref.write_access_unit_zero_univ (Elt F) cc0_scratch4 zero2 inb f w] at h
  exact h

/-! ## Parts of a buffer -/

theorem load_w {α : Type} {Q : α → sProp 𝕄} (c : Dev nD) (j : Fin 3) {hl} (q : PosShare TreeShare) (f : cc0_scratch0.ty.Contents (Elt F)) {k : _ → Prog (TpuEff nD τ sig (Elt F) Λ₀ .tc) α} :
    atW c (rcW j).set q f ⊢ iprop((atW c (rcW j).set q f -∗ WP c (k ((wI.access (rcW j) : View sig .tc _ _ _).read (Elt F) f)) Q)
      -∗ WP c (.op (.load (p := (Dev.tc c : Thread nD τ).2) wI (rcW j).toLoadRect hl) k) Q) :=
  wp_load_rect (Q := Q) (defs := defs₀ (F := F)) (Γ := PendingWaitsCtx.empty) 𝒱₀ (c : Thread nD τ) none Set.univ (m := wI) (r := rcW j) (hl := hl) (k := k)
    (S := (rcW j).set) (q := q) (f := f) (by rw [set_accW])
theorem load_o {α : Type} {Q : α → sProp 𝕄} (c : Dev nD) (j : Fin 3) {hl} (f : cc0_scratch1.ty.Contents (Elt F)) {k : _ → Prog (TpuEff nD τ sig (Elt F) Λ₀ .tc) α} :
    atO c (rcR j).set f ⊢ iprop((atO c (rcR j).set f -∗ WP c (k ((rO.access (rcR j) : View sig .tc _ _ _).read (Elt F) f)) Q)
      -∗ WP c (.op (.load (p := (Dev.tc c : Thread nD τ).2) rO (rcR j).toLoadRect hl) k) Q) :=
  wp_load_rect (Q := Q) (defs := defs₀ (F := F)) (Γ := PendingWaitsCtx.empty) 𝒱₀ (c : Thread nD τ) none Set.univ (m := rO) (r := rcR j) (hl := hl) (k := k)
    (S := (rcR j).set) (q := fullShare) (f := f) (by rw [set_accO])
theorem load_i {α : Type} {Q : α → sProp 𝕄} (c : Dev nD) (j : Fin 3) {hl} (f : cc0_scratch2.ty.Contents (Elt F)) {k : _ → Prog (TpuEff nD τ sig (Elt F) Λ₀ .tc) α} :
    atI c (rcR j).set f ⊢ iprop((atI c (rcR j).set f -∗ WP c (k ((rI.access (rcR j) : View sig .tc _ _ _).read (Elt F) f)) Q)
      -∗ WP c (.op (.load (p := (Dev.tc c : Thread nD τ).2) rI (rcR j).toLoadRect hl) k) Q) :=
  wp_load_rect (Q := Q) (defs := defs₀ (F := F)) (Γ := PendingWaitsCtx.empty) 𝒱₀ (c : Thread nD τ) none Set.univ (m := rI) (r := rcR j) (hl := hl) (k := k)
    (S := (rcR j).set) (q := fullShare) (f := f) (by rw [set_accI])
/-- A strip of the rounded rows is loaded and dropped. -/
theorem load_x {α : Type} {Q : α → sProp 𝕄} (c : Dev nD) (t : Fin 4) {hl} (D : Finset cc0_scratch3.ty.Idx) {k : Prog (TpuEff nD τ sig (Elt F) Λ₀ .tc) α} :
    xHas m ρ c D ⊢ iprop((xHas m ρ c D -∗ WP c k Q)
      -∗ WP c (.op (.load (p := (Dev.tc c : Thread nD τ).2) xB (rcX t).toLoadRect hl) fun _ => k) Q) := by
  unfold xHas
  iintro ⟨%f, %h, H⟩ Hk
  iapply (wp_load_rect (Q := Q) (defs := defs₀ (F := F)) (Γ := PendingWaitsCtx.empty) 𝒱₀ (c : Thread nD τ) none Set.univ (m := xB) (r := rcX t) (hl := hl) (k := fun _ => k)
    (S := Finset.univ) (q := fullShare) (f := f) (Finset.subset_univ _)) $$ H
  iintro H; iapply Hk; iexists f
  isplitr; · ipureintro; exact h
  iexact H
/-- A block of the result is loaded and dropped. -/
theorem load_r {α : Type} {Q : α → sProp 𝕄} (c : Dev nD) (d : Fin 4) {off : Fin 2 → ℕ} (ho : off = ![1024 * d.val, 0]) {inb} {hl} (D : Finset cc0_stg1_0.ty.Idx) {k : Prog (TpuEff nD τ sig (Elt F) Λ₀ .tc) α} :
    oHas m ρ c D ⊢ iprop((oHas m ρ c D -∗ WP c k Q)
      -∗ WP c (.op (.load (p := (Dev.tc c : Thread nD τ).2) oS (Rect.unit (s := S4096x512) off S1024x512.size inb).toLoadRect hl) fun _ => k) Q) := by
  subst ho
  unfold oHas
  iintro ⟨%f, %h, H⟩ Hk
  iapply (wp_load_rect (Q := Q) (defs := defs₀ (F := F)) (Γ := PendingWaitsCtx.empty) 𝒱₀ (c : Thread nD τ) none Set.univ (m := oS) (r := rcO d) (hl := hl) (k := fun _ => k)
    (S := Finset.univ) (q := fullShare) (f := f) (Finset.subset_univ _)) $$ H
  iintro H; iapply Hk; iexists f
  isplitr; · ipureintro; exact h
  iexact H
/-- A strip of the rounded rows is stored. -/
theorem store_x {α : Type} {Q : α → sProp 𝕄} (c : Dev nD) (t : Fin 4) {hx} {hm} (D : Finset cc0_scratch3.ty.Idx) (w : FVec F S256x4096 .bf16)
    (hw : (xB.access (rcX t) : View sig .tc _ _ _).read (Elt F) (xBf m ρ c) = w) {k : PUnit → Prog (TpuEff nD τ sig (Elt F) Λ₀ .tc) α} :
    xHas m ρ c D ⊢ iprop((xHas m ρ c (D ∪ (rcX t).set) -∗ WP c (k ⟨⟩) Q)
      -∗ WP c (.op (.store (p := (Dev.tc c : Thread nD τ).2) xB (rcX t) w Finset.univ hx hm) k) Q) := by
  unfold xHas
  iintro ⟨%f, %h, H⟩ Hk
  iapply (wp_store (Q := Q) (defs := defs₀ (F := F)) (Γ := PendingWaitsCtx.empty) 𝒱₀ (c : Thread nD τ) none Set.univ (m := xB) (r := rcX t) (w := w) (Mk := Finset.univ) (hx := hx) (hm := hm) (k := k)
    (S := Finset.univ) (f := f) (Finset.subset_univ _)) $$ H
  iintro H; iapply Hk; iexists _
  isplitr
  · ipureintro
    have h' := fill (xB.access (rcX t) : View sig .tc _ _ _) f (xBf m ρ c) w D hw h
    rw [set_accX] at h'; exact h'
  iexact H
/-- A block of the result is stored. -/
theorem store_r {α : Type} {Q : α → sProp 𝕄} (c : Dev nD) (d : Fin 4) {off : Fin 2 → ℕ} (ho : off = ![1024 * d.val, 0]) {inb} {hx} {hm} (D : Finset cc0_stg1_0.ty.Idx) (w : FVec F S1024x512 .f32)
    (hw : (oS.access (rcO d) : View sig .tc _ _ _).read (Elt F) (outAt m ρ c) = w) {k : PUnit → Prog (TpuEff nD τ sig (Elt F) Λ₀ .tc) α} :
    oHas m ρ c D ⊢ iprop((oHas m ρ c (D ∪ (rcO d).set) -∗ WP c (k ⟨⟩) Q)
      -∗ WP c (.op (.store (p := (Dev.tc c : Thread nD τ).2) oS (Rect.unit (s := S4096x512) off S1024x512.size inb) w Finset.univ hx hm) k) Q) := by
  subst ho
  unfold oHas
  iintro ⟨%f, %h, H⟩ Hk
  iapply (wp_store (Q := Q) (defs := defs₀ (F := F)) (Γ := PendingWaitsCtx.empty) 𝒱₀ (c : Thread nD τ) none Set.univ (m := oS) (r := rcO d) (w := w) (Mk := Finset.univ) (hx := hx) (hm := hm) (k := k)
    (S := Finset.univ) (f := f) (Finset.subset_univ _)) $$ H
  iintro H; iapply Hk; iexists _
  isplitr
  · ipureintro
    have h' := fill (oS.access (rcO d) : View sig .tc _ _ _) f (outAt m ρ c) w D hw h
    rw [set_accR] at h'; exact h'
  iexact H
/-- A result block is stored to its slot. -/
theorem store_o {α : Type} {Q : α → sProp 𝕄} (c : Dev nD) (j : Fin 3) {hx} {hm} (f : cc0_scratch1.ty.Contents (Elt F)) (w : FVec F S1x1024x512 .bf16)
    (hw : (rO.access (rcR j) : View sig .tc _ _ _).read (Elt F) (rOut m ρ c) = w) {k : PUnit → Prog (TpuEff nD τ sig (Elt F) Λ₀ .tc) α} :
    atO c (rcR j).set f ⊢ iprop((atO c (rcR j).set (rOut m ρ c) -∗ WP c (k ⟨⟩) Q)
      -∗ WP c (.op (.store (p := (Dev.tc c : Thread nD τ).2) rO (rcR j) w Finset.univ hx hm) k) Q) := by
  have h := wp_store (Q := Q) (defs := defs₀ (F := F)) (Γ := PendingWaitsCtx.empty) 𝒱₀ (c : Thread nD τ) none Set.univ (m := rO) (r := rcR j) (w := w) (Mk := Finset.univ) (hx := hx) (hm := hm) (k := k)
    (S := (rcR j).set) (f := f) (by rw [View.setOn_univ, set_accO])
  have e : (((rO.access (rcR j) : View sig .tc _ _ _).loc (c : Thread nD τ)) ↦[(rcR j).set]{fullShare}
      ((rO.access (rcR j) : View sig .tc _ _ _).write (Elt F) f w Finset.univ) : sProp 𝕄) = atO c (rcR j).set (rOut m ρ c) :=
    pointsTo_congr fun i hi => write_eq_of_read (rO.access (rcR j) : View sig .tc _ _ _) f (rOut m ρ c) w hw i (by rw [set_accO]; exact hi)
  rw [e] at h
  exact h

end Cert.Exchange

end
-- ==== Proof.Parts.lean ====
/-
The first half of the kernel's body, part by part: each part takes what it uses of the device's buffers,
tokens and credits, and gives back what the next parts continue with.
-/
module

public import proofs.«01_k».proof.Proof.Access

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 16 → ℕ)

/-! ## The buffers taken apart and put together -/

theorem disj_W01 : Disjoint (rcW 0).set (rcW 1).set := by
  rw [Finset.disjoint_left]; intro i h1 h2; rw [mem_rcW] at h1 h2; simp at h1 h2; omega
theorem disj_W2 : Disjoint ((rcW 0).set ∪ (rcW 1).set) (rcW 2).set := by
  rw [Finset.disjoint_left]; intro i h1 h2; rw [Finset.mem_union, mem_rcW, mem_rcW] at h1; rw [mem_rcW] at h2; simp at h1 h2; omega
theorem disj_H (k : Fin 3) : Disjoint (rcH k 0).set (rcH k 1).set := by
  rw [Finset.disjoint_left]; intro i h1 h2; rw [mem_rcH] at h1 h2; simp at h1 h2; omega
theorem union_H (k : Fin 3) : (rcH k 0).set ∪ (rcH k 1).set = (rcW k).set := by
  ext i
  have := (i 2).isLt
  rw [Finset.mem_union, mem_rcH, mem_rcH, mem_rcW]
  simp only [S3x4096x512] at this
  simp at *; omega
theorem union_W : ((rcW 0).set ∪ (rcW 1).set) ∪ (rcW 2).set = Finset.univ := by
  refine Finset.eq_univ_iff_forall.mpr fun i => ?_
  have := (i 0).isLt
  simp only [S3x4096x512] at this
  simp only [Finset.mem_union, mem_rcW]
  simp at *; omega
theorem disj_R01 : Disjoint (rcR 0).set (rcR 1).set := by
  rw [Finset.disjoint_left]; intro i h1 h2; rw [mem_rcR] at h1 h2; simp at h1 h2; omega
theorem disj_R2 : Disjoint ((rcR 0).set ∪ (rcR 1).set) (rcR 2).set := by
  rw [Finset.disjoint_left]; intro i h1 h2; rw [Finset.mem_union, mem_rcR, mem_rcR] at h1; rw [mem_rcR] at h2; simp at h1 h2; omega
theorem union_R : ((rcR 0).set ∪ (rcR 1).set) ∪ (rcR 2).set = Finset.univ := by
  refine Finset.eq_univ_iff_forall.mpr fun i => ?_
  have := (i 0).isLt
  simp only [S3x1024x512] at this
  simp only [Finset.mem_union, mem_rcR]
  simp at *; omega
theorem disj_X (t u : Fin 4) (h : t < u) : Disjoint (rcX t).set (rcX u).set := by
  rw [Finset.disjoint_left]; intro i h1 h2; rw [mem_rcX] at h1 h2
  have : t.val < u.val := h
  omega

/-- The three weight slots, the last one in halves, make up their buffer. -/
theorem split_W (c : Dev nD) (f : cc0_scratch0.ty.Contents (Elt F)) :
    (atW c Finset.univ fullShare f : sProp 𝕄)
      ⊣⊢ iprop(atW c (rcW 0).set fullShare f ∗ atW c (rcW 1).set fullShare f ∗ atW c (rcH 2 0).set fullShare f ∗ atW c (rcH 2 1).set fullShare f) := by
  have e1 := pointsTo_union (Val := Elt F) (Name := ℕ) (U := UU) (Lvl := ℕ) (Ix := Unit) (ℓ := (c : Thread nD τ).loc cc0_scratch0) (q := fullShare) (f := f) disj_W2
  have e2 := pointsTo_union (Val := Elt F) (Name := ℕ) (U := UU) (Lvl := ℕ) (Ix := Unit) (ℓ := (c : Thread nD τ).loc cc0_scratch0) (q := fullShare) (f := f) disj_W01
  have e3 := pointsTo_union (Val := Elt F) (Name := ℕ) (U := UU) (Lvl := ℕ) (Ix := Unit) (ℓ := (c : Thread nD τ).loc cc0_scratch0) (q := fullShare) (f := f) (disj_H 2)
  rw [union_W] at e1; rw [union_H] at e3
  constructor
  · iintro H
    ihave H := e1.1 $$ H; icases H with ⟨H, H2⟩
    ihave H := e2.1 $$ H; icases H with ⟨H0, H1⟩
    ihave H := e3.1 $$ H2; icases H with ⟨H2, H3⟩
    isplitl [H0]; · iexact H0
    isplitl [H1]; · iexact H1
    isplitl [H2] <;> iassumption
  · iintro ⟨H0, H1, H2, H3⟩
    iapply e1.2
    isplitl [H0 H1]
    · iapply e2.2; isplitl [H0] <;> iassumption
    · iapply e3.2; isplitl [H2] <;> iassumption

/-- The three leaving result slots make up their buffer. -/
theorem split_O (c : Dev nD) (f : cc0_scratch1.ty.Contents (Elt F)) :
    (atO c Finset.univ f : sProp 𝕄) ⊣⊢ iprop(atO c (rcR 0).set f ∗ atO c (rcR 1).set f ∗ atO c (rcR 2).set f) := by
  have e1 := pointsTo_union (Val := Elt F) (Name := ℕ) (U := UU) (Lvl := ℕ) (Ix := Unit) (ℓ := (c : Thread nD τ).loc cc0_scratch1) (q := fullShare) (f := f) disj_R2
  have e2 := pointsTo_union (Val := Elt F) (Name := ℕ) (U := UU) (Lvl := ℕ) (Ix := Unit) (ℓ := (c : Thread nD τ).loc cc0_scratch1) (q := fullShare) (f := f) disj_R01
  rw [union_R] at e1
  constructor
  · iintro H
    ihave H := e1.1 $$ H; icases H with ⟨H, H2⟩
    ihave H := e2.1 $$ H; icases H with ⟨H0, H1⟩
    isplitl [H0]; · iexact H0
    isplitl [H1] <;> iassumption
  · iintro ⟨H0, H1, H2⟩
    iapply e1.2
    isplitl [H0 H1]
    · iapply e2.2; isplitl [H0] <;> iassumption
    · iexact H2

/-- The three arriving result slots make up their buffer. -/
theorem split_I (c : Dev nD) (f : cc0_scratch2.ty.Contents (Elt F)) :
    (atI c Finset.univ f : sProp 𝕄) ⊣⊢ iprop(atI c (rcR 0).set f ∗ atI c (rcR 1).set f ∗ atI c (rcR 2).set f) := by
  have e1 := pointsTo_union (Val := Elt F) (Name := ℕ) (U := UU) (Lvl := ℕ) (Ix := Unit) (ℓ := (c : Thread nD τ).loc cc0_scratch2) (q := fullShare) (f := f) disj_R2
  have e2 := pointsTo_union (Val := Elt F) (Name := ℕ) (U := UU) (Lvl := ℕ) (Ix := Unit) (ℓ := (c : Thread nD τ).loc cc0_scratch2) (q := fullShare) (f := f) disj_R01
  rw [union_R] at e1
  constructor
  · iintro H
    ihave H := e1.1 $$ H; icases H with ⟨H, H2⟩
    ihave H := e2.1 $$ H; icases H with ⟨H0, H1⟩
    isplitl [H0]; · iexact H0
    isplitl [H1] <;> iassumption
  · iintro ⟨H0, H1, H2⟩
    iapply e1.2
    isplitl [H0 H1]
    · iapply e2.2; isplitl [H0] <;> iassumption
    · iexact H2

theorem disj_X01_2 : Disjoint ((rcX 0).set ∪ (rcX 1).set) (rcX 2).set :=
  Finset.disjoint_union_left.mpr ⟨disj_X 0 2 (by decide), disj_X 1 2 (by decide)⟩
theorem disj_X012_3 : Disjoint (((rcX 0).set ∪ (rcX 1).set) ∪ (rcX 2).set) (rcX 3).set :=
  Finset.disjoint_union_left.mpr ⟨Finset.disjoint_union_left.mpr ⟨disj_X 0 3 (by decide), disj_X 1 3 (by decide)⟩, disj_X 2 3 (by decide)⟩
theorem union_X : (((rcX 0).set ∪ (rcX 1).set) ∪ (rcX 2).set) ∪ (rcX 3).set = Finset.univ := by
  have h := strips_all; rwa [Finset.empty_union] at h

/-- The four strips make up the rows of `x`. -/
theorem split_X (c : Dev nD) (f : main_arg0.ty.Contents (Elt F)) :
    (atX c Finset.univ fullShare f : sProp 𝕄)
      ⊣⊢ iprop(atX c (rcX 0).set fullShare f ∗ atX c (rcX 1).set fullShare f ∗ atX c (rcX 2).set fullShare f ∗ atX c (rcX 3).set fullShare f) := by
  have e1 := pointsTo_union (Val := Elt F) (Name := ℕ) (U := UU) (Lvl := ℕ) (Ix := Unit) (ℓ := (c : Thread nD τ).loc main_arg0) (q := fullShare) (f := f) disj_X012_3
  have e2 := pointsTo_union (Val := Elt F) (Name := ℕ) (U := UU) (Lvl := ℕ) (Ix := Unit) (ℓ := (c : Thread nD τ).loc main_arg0) (q := fullShare) (f := f) disj_X01_2
  have e3 := pointsTo_union (Val := Elt F) (Name := ℕ) (U := UU) (Lvl := ℕ) (Ix := Unit) (ℓ := (c : Thread nD τ).loc main_arg0) (q := fullShare) (f := f) (disj_X 0 1 (by decide))
  rw [union_X] at e1
  constructor
  · iintro H
    ihave H := e1.1 $$ H; icases H with ⟨H, H3⟩
    ihave H := e2.1 $$ H; icases H with ⟨H, H2⟩
    ihave H := e3.1 $$ H; icases H with ⟨H0, H1⟩
    isplitl [H0]; · iexact H0
    isplitl [H1]; · iexact H1
    isplitl [H2] <;> iassumption
  · iintro ⟨H0, H1, H2, H3⟩
    iapply e1.2
    isplitl [H0 H1 H2]
    · iapply e2.2
      isplitl [H0 H1]
      · iapply e3.2; isplitl [H0] <;> iassumption
      · iexact H2
    · iexact H3

/-- The rounded columns of `w`, held in the three shares that the loads and the two copies use. -/
theorem share_B (c : Dev nD) (f : cc0_scratch4.ty.Contents (Elt F)) :
    (atB c fullShare f : sProp 𝕄) ⊣⊢ iprop(atB c fullShare.left f ∗ atB c fullShare.right.left f ∗ atB c fullShare.right.right f) := by
  have e1 := pointsTo_share (Val := Elt F) (Name := ℕ) (U := UU) (Lvl := ℕ) (Ix := Unit) (ℓ := (c : Thread nD τ).loc cc0_scratch4) (I := Finset.univ) (f := f) (PosShare.mem_left_op_right fullShare)
  have e2 := pointsTo_share (Val := Elt F) (Name := ℕ) (U := UU) (Lvl := ℕ) (Ix := Unit) (ℓ := (c : Thread nD τ).loc cc0_scratch4) (I := Finset.univ) (f := f) (PosShare.mem_left_op_right fullShare.right)
  constructor
  · iintro H
    ihave H := e1.1 $$ H; icases H with ⟨H0, H⟩
    ihave H := e2.1 $$ H; icases H with ⟨H1, H2⟩
    isplitl [H0]; · iexact H0
    isplitl [H1] <;> iassumption
  · iintro ⟨H0, H1, H2⟩
    iapply e1.2
    isplitl [H0]; · iexact H0
    iapply e2.2
    isplitl [H1] <;> iassumption

/-- A weight slot, held in a share for the loads and a share for the copy of one half. -/
theorem share_W (c : Dev nD) (k : Fin 3) (f : cc0_scratch0.ty.Contents (Elt F)) :
    (atW c (rcW k).set fullShare f : sProp 𝕄)
      ⊣⊢ iprop(atW c (rcW k).set fullShare.left f ∗ atW c (rcH k 0).set fullShare.right f ∗ atW c (rcH k 1).set fullShare.right f) := by
  have e1 := pointsTo_share (Val := Elt F) (Name := ℕ) (U := UU) (Lvl := ℕ) (Ix := Unit) (ℓ := (c : Thread nD τ).loc cc0_scratch0) (I := (rcW k).set) (f := f) (PosShare.mem_left_op_right fullShare)
  have e2 := pointsTo_union (Val := Elt F) (Name := ℕ) (U := UU) (Lvl := ℕ) (Ix := Unit) (ℓ := (c : Thread nD τ).loc cc0_scratch0) (q := fullShare.right) (f := f) (disj_H k)
  rw [union_H] at e2
  constructor
  · iintro H
    ihave H := e1.1 $$ H; icases H with ⟨H0, H⟩
    ihave H := e2.1 $$ H; icases H with ⟨H1, H2⟩
    isplitl [H0]; · iexact H0
    isplitl [H1] <;> iassumption
  · iintro ⟨H0, H1, H2⟩
    iapply e1.2
    isplitl [H0]; · iexact H0
    iapply e2.2
    isplitl [H1] <;> iassumption

/-- The second weight slot, when both its halves have arrived. -/
theorem halves_W (c : Dev nD) (f : cc0_scratch0.ty.Contents (Elt F)) :
    (atW c (rcW 2).set fullShare f : sProp 𝕄) ⊣⊢ iprop(atW c (rcH 2 0).set fullShare f ∗ atW c (rcH 2 1).set fullShare f) := by
  have e := pointsTo_union (Val := Elt F) (Name := ℕ) (U := UU) (Lvl := ℕ) (Ix := Unit) (ℓ := (c : Thread nD τ).loc cc0_scratch0) (q := fullShare) (f := f) (disj_H 2)
  rwa [union_H] at e

theorem barPay_0 (c : Dev nD) : barPay (F := F) c 0
    = iprop((∃ f, atW (lft c) (rcW 1).set fullShare f) ∗ (∃ f, atW (lft c) (rcH 2 1).set fullShare f) ∗ ∃ f, atI (lft c) (rcR 1).set f) := rfl
theorem barPay_1 (c : Dev nD) : barPay (F := F) c 1
    = iprop((∃ f, atW (rgt c) (rcW 0).set fullShare f) ∗ (∃ f, atW (rgt c) (rcH 2 0).set fullShare f) ∗ ∃ f, atI (rgt c) (rcR 0).set f) := rfl
theorem barPay_2 (c : Dev nD) : barPay (F := F) c 2 = iprop(∃ f, atI (dia c) (rcR 2).set f) := rfl

/-! ## What each payment is -/

theorem pay_2 (c : Dev nD) : dmaPay m ρ c (2 : Fin 17).val 0 = atB c fullShare.right.left (wBf m ρ c) := rfl
theorem pay_3 (c : Dev nD) : dmaPay m ρ c (3 : Fin 17).val 0 = atB c fullShare.right.right (wBf m ρ c) := rfl
theorem pay_4 (c : Dev nD) : dmaPay m ρ c (4 : Fin 17).val 0 = atW c (rcH 0 0).set fullShare.right (wAll m ρ c) := rfl
theorem pay_5 (c : Dev nD) : dmaPay m ρ c (5 : Fin 17).val 0 = atW c (rcH 1 1).set fullShare.right (wAll m ρ c) := rfl
theorem pay_6 (c : Dev nD) : dmaPay m ρ c (6 : Fin 17).val 0 = atW c (rcW 0).set fullShare (wAll m ρ c) := rfl
theorem pay_7 (c : Dev nD) : dmaPay m ρ c (7 : Fin 17).val 0 = atW c (rcW 1).set fullShare (wAll m ρ c) := rfl
theorem pay_8 (c : Dev nD) : dmaPay m ρ c (8 : Fin 17).val 0 = atW c (rcH 2 0).set fullShare (wAll m ρ c) := rfl
theorem pay_9 (c : Dev nD) : dmaPay m ρ c (9 : Fin 17).val 0 = atW c (rcH 2 1).set fullShare (wAll m ρ c) := rfl
theorem pay_10 (c : Dev nD) : dmaPay m ρ c (10 : Fin 17).val 0 = atO c (rcR 0).set (rOut m ρ c) := rfl
theorem pay_11 (c : Dev nD) : dmaPay m ρ c (11 : Fin 17).val 0 = atO c (rcR 1).set (rOut m ρ c) := rfl
theorem pay_12 (c : Dev nD) : dmaPay m ρ c (12 : Fin 17).val 0 = atO c (rcR 2).set (rOut m ρ c) := rfl
theorem pay_13 (c : Dev nD) : dmaPay m ρ c (13 : Fin 17).val 0 = atI c (rcR 0).set (rIn m ρ c) := rfl
theorem pay_14 (c : Dev nD) : dmaPay m ρ c (14 : Fin 17).val 0 = atI c (rcR 1).set (rIn m ρ c) := rfl
theorem pay_15 (c : Dev nD) : dmaPay m ρ c (15 : Fin 17).val 0 = atI c (rcR 2).set (rIn m ρ c) := rfl

/-! ## The signals, the rounded columns, the barrier and the first transfer -/

/-- The kernel's second part on device `c`. -/
abbrev P2 (c : Dev nD) (v13 v24 v35 : BitVec 32) : Prog (TpuEff nD τ sig (Elt F) Λ₀ .tc) PUnit :=
  k0_part2 xH (Memref.isWhole_whole _) wS (Memref.isWhole_whole _) oS (Memref.isWhole_whole _) wI (Memref.isWhole_whole _)
    rO (Memref.isWhole_whole _) rI (Memref.isWhole_whole _) xB (Memref.isWhole_whole _) wB (Memref.isWhole_whole _) xS (Memref.isWhole_whole _)
    cc0_scratch6 cc0_scratch7 cc0_scratch8 cc0_scratch9 cc0_scratch10 c v13 v24 v35

set_option maxHeartbeats 1000000 in
/-- The device tells the others that it has started, rounds its columns of `w`, waits for the others and sends its
columns to the right. -/
theorem part2 {α : Type} {Q : α → sProp 𝕄} (c : Dev nD) (v13 v24 v35 : BitVec 32) (k : PUnit → Prog (TpuEff nD τ sig (Elt F) Λ₀ .tc) α) :
    iprop(records m ρ K ∗ levAts L lv ∗ dues c allDues
        ∗ dutyTok ER (barCell (lft c)) 0 1 ∗ dutyTok ER (barCell (rgt c)) 0 0 ∗ dutyTok ER (barCell (dia c)) 0 2
        ∗ (∃ f, atW c Finset.univ fullShare f) ∗ (∃ f, atI c Finset.univ f) ∗ atWs m ρ c ∗ (∃ f, atB c fullShare f)
        ∗ cred (tallyAt (barCell c) () 3) ∗ atPos ER (barCell c) 0 ∅ 0 ∗ dutyTok ER (dCell c 2) 0 0 ∗ dutyTok ER (dCell (rgt c) 6) 0 0)
      ⊢ iprop(((dues c [4, 5, 6, 7, 8, 9] ∗ atWs m ρ c ∗ atB c fullShare.left (wBf m ρ c) ∗ atB c fullShare.right.right (wBf m ρ c)
          ∗ cred (tallyAt (dCell c 2) () (amt 2)) ∗ atPos ER (barCell c) 1 ∅ 0
          ∗ (∃ f, atW (lft c) (rcW 1).set fullShare f) ∗ (∃ f, atW (lft c) (rcH 2 1).set fullShare f) ∗ (∃ f, atI (lft c) (rcR 1).set f)
          ∗ (∃ f, atW (rgt c) (rcH 2 0).set fullShare f) ∗ (∃ f, atI (rgt c) (rcR 0).set f) ∗ (∃ f, atI (dia c) (rcR 2).set f))
            -∗ WP c (k ⟨⟩) Q) -∗ WP c (P2 c v13 v24 v35 >>= k) Q) := by
  unfold P2
  simp only [k0_part2_eq_skeleton]; unfold k0_part2_skel
  simp only [semSignalWord, semWaitWord, Prog.lift, Prog.bind_op, Prog.bind_ret, Prog.pure_eq_ret]
  iintro ⟨#HR, #Hlev, HO, Ht0, Ht1, Ht2, ⟨%f0, HW⟩, ⟨%f2, HI⟩, Hws, ⟨%f4, HB⟩, Hcb, Hab, Hs2, Hs6⟩ Hk
  ihave HW := (split_W c f0).1 $$ HW; icases HW with ⟨HW0, HW1, HH0, HH1⟩
  ihave HI := (split_I c f2).1 $$ HI; icases HI with ⟨HI0, HI1, HI2⟩
  -- the three signals
  iapply (step_signal m ρ K c _ 0 (dev1_eq c) [1, 2, 3, 4, 5, 6, 7, 8, 9] 1 rfl) $$ [HO Ht0 HW0 HH0 HI0]
  · isplitr; · iexact HR
    isplitl [HO]; · iexact HO
    isplitl [Ht0]; · iexact Ht0
    rw [show barPay (F := F) (dueDev 0 c) 1 = iprop((∃ f, atW c (rcW 0).set fullShare f) ∗ (∃ f, atW c (rcH 2 0).set fullShare f) ∗ ∃ f, atI c (rcR 0).set f) by
      show iprop((∃ f, atW (rgt (lft c)) (rcW 0).set fullShare f) ∗ (∃ f, atW (rgt (lft c)) (rcH 2 0).set fullShare f) ∗ ∃ f, atI (rgt (lft c)) (rcR 0).set f) = _
      rw [rgt_lft]]
    isplitl [HW0]; · iexists f0; iexact HW0
    isplitl [HH0]; · iexists f0; iexact HH0
    iexists f2; iexact HI0
  iintro HO
  iapply (step_signal m ρ K c _ 1 (dev2_eq c) [2, 3, 4, 5, 6, 7, 8, 9] 0 rfl) $$ [HO Ht1 HW1 HH1 HI1]
  · isplitr; · iexact HR
    isplitl [HO]; · iexact HO
    isplitl [Ht1]; · iexact Ht1
    rw [show barPay (F := F) (dueDev 1 c) 0 = iprop((∃ f, atW c (rcW 1).set fullShare f) ∗ (∃ f, atW c (rcH 2 1).set fullShare f) ∗ ∃ f, atI c (rcR 1).set f) by
      show iprop((∃ f, atW (lft (rgt c)) (rcW 1).set fullShare f) ∗ (∃ f, atW (lft (rgt c)) (rcH 2 1).set fullShare f) ∗ ∃ f, atI (lft (rgt c)) (rcR 1).set f) = _
      rw [lft_rgt]]
    isplitl [HW1]; · iexists f0; iexact HW1
    isplitl [HH1]; · iexists f0; iexact HH1
    iexists f2; iexact HI1
  iintro HO
  iapply (step_signal m ρ K c _ 2 (dev3_eq c) [3, 4, 5, 6, 7, 8, 9] 2 rfl) $$ [HO Ht2 HI2]
  · isplitr; · iexact HR
    isplitl [HO]; · iexact HO
    isplitl [Ht2]; · iexact Ht2
    rw [show barPay (F := F) (dueDev 2 c) 2 = iprop(∃ f, atI c (rcR 2).set f) by
      show iprop(∃ f, atI (dia (dia c)) (rcR 2).set f) = _
      rw [dia_dia]]
    iexists f2; iexact HI2
  iintro HO
  -- the columns of `w`, rounded
  iapply (load_ws m ρ c) $$ Hws; iintro Hws
  iapply (load_wb c fullShare f4) $$ HB; iintro HB
  iapply (store_wb c f4 (k0_pay1 (wIn m ρ c))) $$ HB; iintro HB
  rw [pay1_eq]
  -- the barrier
  iapply (step_barrier m ρ K c [3, 4, 5, 6, 7, 8, 9] (by decide) (by decide)) $$ [Hcb HO Hab]
  · isplitr; · iexact HR
    isplitr; · iexact Hlev
    isplitl [Hcb]; · iexact Hcb
    isplitl [HO] <;> iassumption
  iintro ⟨HO, Hab, P0, P1, P2⟩
  ihave P0 := (Entails.of_eq (barPay_0 c)) $$ P0; icases P0 with ⟨HL1, HLH, HLI⟩
  ihave P1 := (Entails.of_eq (barPay_1 c)) $$ P1; icases P1 with ⟨HR0, HRH, HRI⟩
  ihave HD := (Entails.of_eq (barPay_2 c)) $$ P2
  -- the transfer to the right
  ihave HB := (share_B c (wBf m ρ c)).1 $$ HB; icases HB with ⟨HBl, HBa, HBb⟩
  icases HR0 with ⟨%fd, HR0⟩
  iapply (step_send m ρ K c _ 3 (dev4_eq c) [4, 5, 6, 7, 8, 9] 2 6 sem6_0 sem7_0 rfl (by decide) (by decide) (ss := wB) (dd := wSl 0) rfl rfl
      fullShare.right.left (wBf m ρ c) (by rw [View.set_whole]; exact BI.Entails.refl _) (wAll m ρ (rgt c)) (land_w m ρ c (rgt c) 0 (lft_rgt c))
      (by rw [set_wSl]; exact BI.Entails.refl _)) $$ [HBa HR0 HO Hs2 Hs6]
  · isplitr; · iexact HR
    isplitl [HBa]; · rw [View.set_whole]; iexact HBa
    isplitl [HR0]; · iexists fd; rw [set_wSl]; iexact HR0
    isplitl [HO]; · iexact HO
    isplitl [Hs2]; · iexact Hs2
    iexact Hs6
  iintro ⟨Hc2, HO⟩
  iapply Hk
  isplitl [HO]; · iexact HO
  isplitl [Hws]; · iexact Hws
  isplitl [HBl]; · iexact HBl
  isplitl [HBb]; · iexact HBb
  isplitl [Hc2]; · iexact Hc2
  isplitl [Hab]; · iexact Hab
  isplitl [HL1]; · iexact HL1
  isplitl [HLH]; · iexact HLH
  isplitl [HLI]; · iexact HLI
  isplitl [HRH]; · iexact HRH
  isplitl [HRI]; · iexact HRI
  iexact HD

/-! ## The second transfer and the rounded rows -/

theorem stagePay (c : Dev nD) (t : Fin 4) : dmaPay m ρ c (16 : Fin 17).val t.val = iprop(atS c (strip m ρ c t) ∗ atX c (rcX t).set fullShare (xIn m ρ c)) := by
  show iprop(atS c (strip m ρ c (if h : t.val < 4 then ⟨t.val, h⟩ else 0)) ∗ atX c (rcX (if h : t.val < 4 then ⟨t.val, h⟩ else 0)).set fullShare (xIn m ρ c)) = _
  rw [dif_pos t.isLt]

/-- One strip of the rows of `x` is fetched, rounded and stored. -/
theorem fetch {α : Type} {Q : α → sProp 𝕄} (c : Dev nD) (t : Fin 4) (l : List (Fin 10)) (hl : ∀ i ∈ l, lvS (.dma (16 : Fin 17)) < lvS (dueSem i))
    (D : Finset cc0_scratch3.ty.Idx) (pay : Vec F S256x4096 .f32 → FVec F S256x4096 .bf16)
    (hw : (xB.access (rcX t) : View sig .tc _ _ _).read (Elt F) (xBf m ρ c) = pay (strip m ρ c t))
    {hs : (xSt t).view.WordExact} {hd : xS.view.WordExact} {hty : DmaTarget.Typed (nD := nD) (p := (Dev.tc c : Thread nD τ).2) .hbm (.dma (16 : Fin 17)) (.here xS)}
    {hs' : (xSt t).view.WordExact} {hd' : xS.view.WordExact} {inb} {hl₁} {hl₂} {hx} {hm}
    {k : PUnit → Prog (TpuEff nD τ sig (Elt F) Λ₀ .tc) α} :
    iprop(records m ρ K ∗ levAts L lv ∗ dues c l ∗ atX c (rcX t).set fullShare (xIn m ρ c) ∗ (∃ f, atS c f) ∗ xHas m ρ c D
        ∗ atPos ER (dCell c 16) t.val ∅ 0 ∗ dutyTok ER (dCell c 16) t.val 0 ∗ reached ER (dCell c 16) t.val)
      ⊢ iprop(((dues c l ∗ atX c (rcX t).set fullShare (xIn m ρ c) ∗ (∃ f, atS c f) ∗ xHas m ρ c (D ∪ (rcX t).set)
            ∗ atPos ER (dCell c 16) (t.val + 1) ∅ 0 ∗ reached ER (dCell c 16) (t.val + 1)) -∗ WP c (k ⟨⟩) Q)
          -∗ WP c (.op (.enqueueDma (xSt t) (.here xS) (.dma (16 : Fin 17)) hs hd hty) fun _ =>
              .op (.waitDma2 (16 : Fin 17) (xSt t) xS hs' hd') fun _ =>
              .op (.load (p := (Dev.tc c : Thread nD τ).2) xS (Rect.unit (s := S256x4096) ![0, 0] S256x4096.size inb).toLoadRect hl₁) fun v =>
              .op (.load (p := (Dev.tc c : Thread nD τ).2) xB (rcX t).toLoadRect hl₂) fun _ =>
              .op (.store (p := (Dev.tc c : Thread nD τ).2) xB (rcX t) (pay v) Finset.univ hx hm) k) Q) := by
  iintro ⟨#HR, #Hlev, HO, Hx, Hs, HB, Hat, Ht, Hr⟩ Hk
  iapply (step_copy m ρ K c t) $$ [Hx Hs Ht Hr]
  · isplitr; · iexact HR
    isplitl [Hx]; · iexact Hx
    isplitl [Hs]; · iexact Hs
    isplitl [Ht] <;> iassumption
  iintro Hc
  iapply (step_wait m ρ K c 16 t.val l ⟨by decide, .inr ⟨rfl, t.isLt⟩⟩ hl rfl (cred_s t)) $$ [Hc HO Hat]
  · isplitr; · iexact HR
    isplitr; · iexact Hlev
    isplitl [Hc]; · iexact Hc
    isplitl [HO] <;> iassumption
  iintro ⟨HO, Hat, Hr, Hp⟩
  ihave Hp := (Entails.of_eq (stagePay m ρ c t)) $$ Hp; icases Hp with ⟨Hs, Hx⟩
  iapply (load_xs c (strip m ρ c t)) $$ Hs; iintro Hs
  iapply (load_x m ρ c t D) $$ HB; iintro HB
  iapply (store_x m ρ c t D (pay (strip m ρ c t)) hw) $$ HB; iintro HB
  iapply Hk
  isplitl [HO]; · iexact HO
  isplitl [Hx]; · iexact Hx
  isplitl [Hs]; · iexists _; iexact Hs
  isplitl [HB]; · iexact HB
  isplitl [Hat] <;> iassumption

/-- The kernel's third part on device `c`. -/
abbrev P3 (c : Dev nD) : Prog (TpuEff nD τ sig (Elt F) Λ₀ .tc) PUnit :=
  k0_part3 xH (Memref.isWhole_whole _) wS (Memref.isWhole_whole _) oS (Memref.isWhole_whole _) wI (Memref.isWhole_whole _)
    rO (Memref.isWhole_whole _) rI (Memref.isWhole_whole _) xB (Memref.isWhole_whole _) wB (Memref.isWhole_whole _) xS (Memref.isWhole_whole _)
    cc0_scratch6 cc0_scratch7 cc0_scratch8 cc0_scratch9 cc0_scratch10 c

set_option maxHeartbeats 1000000 in
/-- The device sends its columns of `w` to the left and rounds the first three strips of its rows of `x`. -/
theorem part3 {α : Type} {Q : α → sProp 𝕄} (c : Dev nD) (k : PUnit → Prog (TpuEff nD τ sig (Elt F) Λ₀ .tc) α) :
    iprop(records m ρ K ∗ levAts L lv ∗ dues c [4, 5, 6, 7, 8, 9] ∗ atB c fullShare.right.right (wBf m ρ c)
        ∗ (∃ f, atW (lft c) (rcW 1).set fullShare f) ∗ dutyTok ER (dCell c 3) 0 0 ∗ dutyTok ER (dCell (lft c) 7) 0 0
        ∗ atX c (rcX 0).set fullShare (xIn m ρ c) ∗ atX c (rcX 1).set fullShare (xIn m ρ c) ∗ atX c (rcX 2).set fullShare (xIn m ρ c)
        ∗ (∃ f, atS c f) ∗ xHas m ρ c ∅ ∗ atPos ER (dCell c 16) 0 ∅ 0
        ∗ dutyTok ER (dCell c 16) 0 0 ∗ dutyTok ER (dCell c 16) 1 0 ∗ dutyTok ER (dCell c 16) 2 0)
      ⊢ iprop(((dues c [5, 6, 7, 8, 9] ∗ cred (tallyAt (dCell c 3) () (amt 3))
          ∗ atX c (rcX 0).set fullShare (xIn m ρ c) ∗ atX c (rcX 1).set fullShare (xIn m ρ c) ∗ atX c (rcX 2).set fullShare (xIn m ρ c)
          ∗ (∃ f, atS c f) ∗ xHas m ρ c ((∅ ∪ (rcX 0).set) ∪ (rcX 1).set ∪ (rcX 2).set) ∗ atPos ER (dCell c 16) 3 ∅ 0 ∗ reached ER (dCell c 16) 3)
            -∗ WP c (k ⟨⟩) Q) -∗ WP c (P3 c >>= k) Q) := by
  unfold P3
  simp only [k0_part3_eq_skeleton]; unfold k0_part3_skel
  simp only [semSignalWord, semWaitWord, Prog.lift, Prog.bind_op, Prog.bind_ret, Prog.pure_eq_ret]
  iintro ⟨#HR, #Hlev, HO, HB, ⟨%fd, HL⟩, Hs3, Hs7, HX0, HX1, HX2, HS, HXB, Hat, Ht0, Ht1, Ht2⟩ Hk
  iapply (step_send m ρ K c _ 4 (dev5_eq c) [5, 6, 7, 8, 9] 3 7 sem6_1 sem7_1 rfl (by decide) (by decide) (ss := wB) (dd := wSl 1) rfl rfl
      fullShare.right.right (wBf m ρ c) (by rw [View.set_whole]; exact BI.Entails.refl _) (wAll m ρ (lft c)) (land_w m ρ c (lft c) 1 (rgt_lft c))
      (by rw [set_wSl]; exact BI.Entails.refl _)) $$ [HB HL HO Hs3 Hs7]
  · isplitr; · iexact HR
    isplitl [HB]; · rw [View.set_whole]; iexact HB
    isplitl [HL]; · iexists fd; rw [set_wSl]; iexact HL
    isplitl [HO]; · iexact HO
    isplitl [Hs3]; · iexact Hs3
    iexact Hs7
  iintro ⟨Hc3, HO⟩
  iapply (fetch m ρ K c 0 [5, 6, 7, 8, 9] (by decide) ∅ k0_pay2 (pay2_eq m ρ c)) $$ [HO HX0 HS HXB Hat Ht0]
  · isplitr; · iexact HR
    isplitr; · iexact Hlev
    isplitl [HO]; · iexact HO
    isplitl [HX0]; · iexact HX0
    isplitl [HS]; · iexact HS
    isplitl [HXB]; · iexact HXB
    isplitl [Hat]; · iexact Hat
    isplitl [Ht0]; · iexact Ht0
    iapply (reach_dma m ρ K c 16 (by decide)); iexact HR
  iintro ⟨HO, HX0, HS, HXB, Hat, Hr⟩
  iapply (fetch m ρ K c 1 [5, 6, 7, 8, 9] (by decide) _ k0_pay3 (pay3_eq m ρ c)) $$ [HO HX1 HS HXB Hat Ht1 Hr]
  · isplitr; · iexact HR
    isplitr; · iexact Hlev
    isplitl [HO]; · iexact HO
    isplitl [HX1]; · iexact HX1
    isplitl [HS]; · iexact HS
    isplitl [HXB]; · iexact HXB
    isplitl [Hat]; · iexact Hat
    isplitl [Ht1]; · iexact Ht1
    iexact Hr
  iintro ⟨HO, HX1, HS, HXB, Hat, Hr⟩
  iapply (fetch m ρ K c 2 [5, 6, 7, 8, 9] (by decide) _ k0_pay4 (pay4_eq m ρ c)) $$ [HO HX2 HS HXB Hat Ht2 Hr]
  · isplitr; · iexact HR
    isplitr; · iexact Hlev
    isplitl [HO]; · iexact HO
    isplitl [HX2]; · iexact HX2
    isplitl [HS]; · iexact HS
    isplitl [HXB]; · iexact HXB
    isplitl [Hat]; · iexact Hat
    isplitl [Ht2]; · iexact Ht2
    iexact Hr
  iintro ⟨HO, HX2, HS, HXB, Hat, Hr⟩
  iapply Hk
  isplitl [HO]; · iexact HO
  isplitl [Hc3]; · iexact Hc3
  isplitl [HX0]; · iexact HX0
  isplitl [HX1]; · iexact HX1
  isplitl [HX2]; · iexact HX2
  isplitl [HS]; · iexact HS
  isplitl [HXB]; · iexact HXB
  isplitl [Hat]; · iexact Hat
  iexact Hr

/-! ## The device's own block of the result -/

/-- The kernel's fourth part on device `c`. -/
abbrev P4 (c : Dev nD) (v2 v24 : BitVec 32) : Prog (TpuEff nD τ sig (Elt F) Λ₀ .tc) PUnit :=
  k0_part4 xH (Memref.isWhole_whole _) wS (Memref.isWhole_whole _) oS (Memref.isWhole_whole _) wI (Memref.isWhole_whole _)
    rO (Memref.isWhole_whole _) rI (Memref.isWhole_whole _) xB (Memref.isWhole_whole _) wB (Memref.isWhole_whole _) xS (Memref.isWhole_whole _)
    cc0_scratch6 cc0_scratch7 cc0_scratch8 cc0_scratch9 cc0_scratch10 c v2 v24

set_option maxHeartbeats 1000000 in
/-- The device rounds the last strip of its rows of `x`, computes its own block of the result and waits for the
columns of `w` from the left. -/
theorem part4 {α : Type} {Q : α → sProp 𝕄} (c : Dev nD) (v2 v24 : BitVec 32) (k : PUnit → Prog (TpuEff nD τ sig (Elt F) Λ₀ .tc) α) :
    iprop(records m ρ K ∗ levAts L lv ∗ dues c [5, 6, 7, 8, 9] ∗ atX c (rcX 3).set fullShare (xIn m ρ c)
        ∗ (∃ f, atS c f) ∗ xHas m ρ c ((∅ ∪ (rcX 0).set) ∪ (rcX 1).set ∪ (rcX 2).set) ∗ atPos ER (dCell c 16) 3 ∅ 0 ∗ reached ER (dCell c 16) 3
        ∗ dutyTok ER (dCell c 16) 3 0 ∗ atB c fullShare.left (wBf m ρ c) ∗ oHas m ρ c ∅
        ∗ cred (tallyAt (dCell c 6) () (amt 6)) ∗ atPos ER (dCell c 6) 0 ∅ 0)
      ⊢ iprop(((dues c [5, 6, 7, 8, 9] ∗ atX c (rcX 3).set fullShare (xIn m ρ c) ∗ (∃ f, atS c f) ∗ atXb c (xBf m ρ c) ∗ atPos ER (dCell c 16) 4 ∅ 0
          ∗ atB c fullShare.left (wBf m ρ c) ∗ oHas m ρ c (∅ ∪ (rcO c).set) ∗ atPos ER (dCell c 6) 1 ∅ 0 ∗ atW c (rcW 0).set fullShare (wAll m ρ c))
            -∗ WP c (k ⟨⟩) Q) -∗ WP c (P4 c v2 v24 >>= k) Q) := by
  unfold P4
  simp only [k0_part4_eq_skeleton]; unfold k0_part4_skel
  simp only [semSignalWord, semWaitWord, Prog.lift, Prog.bind_op, Prog.bind_ret, Prog.pure_eq_ret]
  iintro ⟨#HR, #Hlev, HO, HX3, HS, HXB, Hat, Hr, Ht3, HB, Hout, Hc6, Ha6⟩ Hk
  iapply (fetch m ρ K c 3 [5, 6, 7, 8, 9] (by decide) _ k0_pay5 (pay5_eq m ρ c)) $$ [HO HX3 HS HXB Hat Ht3 Hr]
  · isplitr; · iexact HR
    isplitr; · iexact Hlev
    isplitl [HO]; · iexact HO
    isplitl [HX3]; · iexact HX3
    isplitl [HS]; · iexact HS
    isplitl [HXB]; · iexact HXB
    isplitl [Hat]; · iexact Hat
    isplitl [Ht3]; · iexact Ht3
    iexact Hr
  iintro ⟨HO, HX3, HS, HXB, Hat, Hr⟩
  ihave HXB := (xHas_all m ρ c) $$ HXB
  iapply (load_xb c (xBf m ρ c)) $$ HXB; iintro HXB
  iapply (load_wb c fullShare.left (wBf m ρ c)) $$ HB; iintro HB
  iapply (load_r m ρ c c (off1_eq c) ∅) $$ Hout; iintro Hout
  iapply (store_r m ρ c c (off1_eq c) ∅ (k0_pay6 (xBf m ρ c) (wBf m ρ c)) (own_rows m ρ c)) $$ Hout; iintro Hout
  iapply (step_wait m ρ K c 6 0 [5, 6, 7, 8, 9] (by decide) (by decide) sem7_0 rfl) $$ [Hc6 HO Ha6]
  · isplitr; · iexact HR
    isplitr; · iexact Hlev
    isplitl [Hc6]; · iexact Hc6
    isplitl [HO]; · iexact HO
    iexact Ha6
  iintro ⟨HO, Ha6, -, HW⟩
  ihave HW := (Entails.of_eq (pay_6 m ρ c)) $$ HW
  iapply Hk
  isplitl [HO]; · iexact HO
  isplitl [HX3]; · iexact HX3
  isplitl [HS]; · iexact HS
  isplitl [HXB]; · iexact HXB
  isplitl [Hat]; · iexact Hat
  isplitl [HB]; · iexact HB
  isplitl [Hout]; · iexact Hout
  isplitl [Ha6]; · iexact Ha6
  iexact HW

end Cert.Exchange

end
-- ==== Proof.Parts2.lean ====
/-
The second half of the kernel's body, part by part: each part takes what it uses of the device's buffers,
tokens and credits, and gives back what the next parts continue with.
-/
module

public import proofs.«01_k».proof.Proof.Parts

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 16 → ℕ)

/-! ## The block for the left neighbour -/

/-- The kernel's fifth part on device `c`. -/
abbrev P5 (c : Dev nD) (v13 : BitVec 32) : Prog (TpuEff nD τ sig (Elt F) Λ₀ .tc) PUnit :=
  k0_part5 xH (Memref.isWhole_whole _) wS (Memref.isWhole_whole _) oS (Memref.isWhole_whole _) wI (Memref.isWhole_whole _)
    rO (Memref.isWhole_whole _) rI (Memref.isWhole_whole _) xB (Memref.isWhole_whole _) wB (Memref.isWhole_whole _) xS (Memref.isWhole_whole _)
    cc0_scratch6 cc0_scratch7 cc0_scratch8 cc0_scratch9 cc0_scratch10 c v13

set_option maxHeartbeats 1000000 in
/-- The device passes half of the columns from the left on to the right, and computes the block for the left neighbour and
sends it. -/
theorem part5 {α : Type} {Q : α → sProp 𝕄} (c : Dev nD) (v13 : BitVec 32) (k : PUnit → Prog (TpuEff nD τ sig (Elt F) Λ₀ .tc) α) :
    iprop(records m ρ K
        ∗ dues c [5, 6, 7, 8, 9]
        ∗ atW c (rcW 0).set fullShare (wAll m ρ c)
        ∗ (∃ f, atW (rgt c) (rcH 2 0).set fullShare f)
        ∗ dutyTok ER (dCell c 4) 0 0
        ∗ dutyTok ER (dCell (rgt c) 8) 0 0
        ∗ atXb c (xBf m ρ c)
        ∗ (∃ f, atO c (rcR 1).set f)
        ∗ (∃ f, atI (lft c) (rcR 1).set f)
        ∗ dutyTok ER (dCell c 11) 0 0
        ∗ dutyTok ER (dCell (lft c) 14) 0 0)
      ⊢ iprop(((dues c [7, 8, 9]
          ∗ atW c (rcW 0).set fullShare.left (wAll m ρ c)
          ∗ atW c (rcH 0 1).set fullShare.right (wAll m ρ c)
          ∗ cred (tallyAt (dCell c 4) () (amt 4))
          ∗ atXb c (xBf m ρ c)
          ∗ cred (tallyAt (dCell c 11) () (amt 11))) -∗ WP c (k ⟨⟩) Q) -∗ WP c (P5 c v13 >>= k) Q) := by
  unfold P5
  simp only [k0_part5_eq_skeleton]; unfold k0_part5_skel
  simp only [semSignalWord, semWaitWord, Prog.lift, Prog.bind_op, Prog.bind_ret, Prog.pure_eq_ret]
  iintro ⟨#HR, HO, HW, HRH, Hs4, Hs8, HXB, HO1, HLI, Hs11, Hs14⟩ Hk
  ihave HW := (share_W c 0 (wAll m ρ c)).1 $$ HW; icases HW with ⟨HWl, HWa, HWb⟩
  icases HRH with ⟨%fd5, HRH⟩
  iapply (step_send m ρ K c _ 5 (dev6_eq c) [6, 7, 8, 9] 4 8 sem6_2 sem7_2 rfl (by decide) (by decide) (ss := wHf 0 0) (dd := wHf 2 0) rfl rfl
      fullShare.right (wAll m ρ c) (by rw [set_wHf]; exact BI.Entails.refl _) (wAll m ρ (rgt c)) (land_h m ρ c (rgt c) 0 0 (dia_rgt c))
      (by rw [set_wHf]; exact BI.Entails.refl _)) $$ [HWa HRH HO Hs4 Hs8]
  · isplitr; · iexact HR
    isplitl [HWa]; · rw [set_wHf]; iexact HWa
    isplitl [HRH]; · iexists fd5; rw [set_wHf]; iexact HRH
    isplitl [HO]; · iexact HO
    isplitl [Hs4]; · iexact Hs4
    iexact Hs8
  iintro ⟨Hc4, HO⟩
  icases HO1 with ⟨%f1, HO1⟩
  iapply (load_w c 0 fullShare.left (wAll m ρ c)) $$ HWl; iintro HWl
  iapply (load_xb c (xBf m ρ c)) $$ HXB; iintro HXB
  iapply (load_o c 1 f1) $$ HO1; iintro HO1
  iapply (store_o m ρ c 1 f1 _ (pay7_eq m ρ c)) $$ HO1; iintro HO1
  icases HLI with ⟨%fd6, HLI⟩
  iapply (step_send m ρ K c _ 6 (dev7_eq c) [7, 8, 9] 11 14 sem8_1 sem9_1 rfl (by decide) (by decide) (ss := oSl 1) (dd := iSl 1) rfl rfl
      fullShare (rOut m ρ c) (by rw [set_oSl]; exact BI.Entails.refl _) (rIn m ρ (lft c)) (land_r m ρ c (lft c) 1 (rgt_lft c) rfl)
      (by rw [set_iSl]; exact BI.Entails.refl _)) $$ [HO1 HLI HO Hs11 Hs14]
  · isplitr; · iexact HR
    isplitl [HO1]; · rw [set_oSl]; iexact HO1
    isplitl [HLI]; · iexists fd6; rw [set_iSl]; iexact HLI
    isplitl [HO]; · iexact HO
    isplitl [Hs11]; · iexact Hs11
    iexact Hs14
  iintro ⟨Hc11, HO⟩
  iapply Hk
  isplitl [HO]; · iexact HO
  isplitl [HWl]; · iexact HWl
  isplitl [HWb]; · iexact HWb
  isplitl [Hc4]; · iexact Hc4
  isplitl [HXB]; · iexact HXB
  iexact Hc11

/-! ## The block for the right neighbour -/

/-- The kernel's sixth part on device `c`. -/
abbrev P6 (c : Dev nD) (v13 : BitVec 32) (v24 : BitVec 32) : Prog (TpuEff nD τ sig (Elt F) Λ₀ .tc) PUnit :=
  k0_part6 xH (Memref.isWhole_whole _) wS (Memref.isWhole_whole _) oS (Memref.isWhole_whole _) wI (Memref.isWhole_whole _)
    rO (Memref.isWhole_whole _) rI (Memref.isWhole_whole _) xB (Memref.isWhole_whole _) wB (Memref.isWhole_whole _) xS (Memref.isWhole_whole _)
    cc0_scratch6 cc0_scratch7 cc0_scratch8 cc0_scratch9 cc0_scratch10 c v13 v24

set_option maxHeartbeats 1000000 in
/-- The device waits for the columns from the right, passes half of them on to the left, and computes the block for the
right neighbour. -/
theorem part6 {α : Type} {Q : α → sProp 𝕄} (c : Dev nD) (v13 : BitVec 32) (v24 : BitVec 32) (k : PUnit → Prog (TpuEff nD τ sig (Elt F) Λ₀ .tc) α) :
    iprop(records m ρ K
        ∗ levAts L lv
        ∗ dues c [7, 8, 9]
        ∗ cred (tallyAt (dCell c 7) () (amt 7))
        ∗ atPos ER (dCell c 7) 0 ∅ 0
        ∗ (∃ f, atW (lft c) (rcH 2 1).set fullShare f)
        ∗ dutyTok ER (dCell c 5) 0 0
        ∗ dutyTok ER (dCell (lft c) 9) 0 0
        ∗ atXb c (xBf m ρ c)
        ∗ (∃ f, atO c (rcR 0).set f))
      ⊢ iprop(((dues c [8, 9]
          ∗ atPos ER (dCell c 7) 1 ∅ 0
          ∗ atW c (rcW 1).set fullShare.left (wAll m ρ c)
          ∗ atW c (rcH 1 0).set fullShare.right (wAll m ρ c)
          ∗ cred (tallyAt (dCell c 5) () (amt 5))
          ∗ atXb c (xBf m ρ c)
          ∗ atO c (rcR 0).set (rOut m ρ c)) -∗ WP c (k ⟨⟩) Q) -∗ WP c (P6 c v13 v24 >>= k) Q) := by
  unfold P6
  simp only [k0_part6_eq_skeleton]; unfold k0_part6_skel
  simp only [semSignalWord, semWaitWord, Prog.lift, Prog.bind_op, Prog.bind_ret, Prog.pure_eq_ret]
  iintro ⟨#HR, #Hlev, HO, Hc7, Ha7, HLH, Hs5, Hs9, HXB, HO0⟩ Hk
  iapply (step_wait m ρ K c 7 0 [7, 8, 9] (by decide) (by decide) sem7_1 (ss := wB) (dd := wSl 1) rfl) $$ [Hc7 HO Ha7]
  · isplitr; · iexact HR
    isplitr; · iexact Hlev
    isplitl [Hc7]; · iexact Hc7
    isplitl [HO]; · iexact HO
    iexact Ha7
  iintro ⟨HO, Ha7, -, HW⟩
  ihave HW := (Entails.of_eq (pay_7 m ρ c)) $$ HW
  ihave HW := (share_W c 1 (wAll m ρ c)).1 $$ HW; icases HW with ⟨HWl, HWa, HWb⟩
  icases HLH with ⟨%fd7, HLH⟩
  iapply (step_send m ρ K c _ 7 (dev8_eq c) [8, 9] 5 9 sem6_3 sem7_3 rfl (by decide) (by decide) (ss := wHf 1 1) (dd := wHf 2 1) rfl rfl
      fullShare.right (wAll m ρ c) (by rw [set_wHf]; exact BI.Entails.refl _) (wAll m ρ (lft c)) (land_h m ρ c (lft c) 1 1 (dia_lft c))
      (by rw [set_wHf]; exact BI.Entails.refl _)) $$ [HWb HLH HO Hs5 Hs9]
  · isplitr; · iexact HR
    isplitl [HWb]; · rw [set_wHf]; iexact HWb
    isplitl [HLH]; · iexists fd7; rw [set_wHf]; iexact HLH
    isplitl [HO]; · iexact HO
    isplitl [Hs5]; · iexact Hs5
    iexact Hs9
  iintro ⟨Hc5, HO⟩
  icases HO0 with ⟨%f1, HO0⟩
  iapply (load_w c 1 fullShare.left (wAll m ρ c)) $$ HWl; iintro HWl
  iapply (load_xb c (xBf m ρ c)) $$ HXB; iintro HXB
  iapply (load_o c 0 f1) $$ HO0; iintro HO0
  iapply (store_o m ρ c 0 f1 _ (pay8_eq m ρ c)) $$ HO0; iintro HO0
  iapply Hk
  isplitl [HO]; · iexact HO
  isplitl [Ha7]; · iexact Ha7
  isplitl [HWl]; · iexact HWl
  isplitl [HWa]; · iexact HWa
  isplitl [Hc5]; · iexact Hc5
  isplitl [HXB]; · iexact HXB
  iexact HO0

/-! ## The block for the device opposite -/

/-- The kernel's seventh part on device `c`. -/
abbrev P7 (c : Dev nD) (v13 : BitVec 32) (v24 : BitVec 32) : Prog (TpuEff nD τ sig (Elt F) Λ₀ .tc) (Σ' (v195 : FVec F S1024x512 .bf16), Vec F S1x1024x512 .bf16) :=
  k0_part7 xH (Memref.isWhole_whole _) wS (Memref.isWhole_whole _) oS (Memref.isWhole_whole _) wI (Memref.isWhole_whole _)
    rO (Memref.isWhole_whole _) rI (Memref.isWhole_whole _) xB (Memref.isWhole_whole _) wB (Memref.isWhole_whole _) xS (Memref.isWhole_whole _)
    cc0_scratch6 cc0_scratch7 cc0_scratch8 cc0_scratch9 cc0_scratch10 c v13 v24

set_option maxHeartbeats 1000000 in
/-- The device sends the right neighbour its block, waits for the two halves of the columns from the device opposite and
computes the block for that device. -/
theorem part7 {α : Type} {Q : α → sProp 𝕄} (c : Dev nD) (v13 : BitVec 32) (v24 : BitVec 32) (k : (Σ' (v195 : FVec F S1024x512 .bf16), Vec F S1x1024x512 .bf16) → Prog (TpuEff nD τ sig (Elt F) Λ₀ .tc) α) :
    iprop(records m ρ K
        ∗ levAts L lv
        ∗ dues c [8, 9]
        ∗ atO c (rcR 0).set (rOut m ρ c)
        ∗ (∃ f, atI (rgt c) (rcR 0).set f)
        ∗ dutyTok ER (dCell c 10) 0 0
        ∗ dutyTok ER (dCell (rgt c) 13) 0 0
        ∗ cred (tallyAt (dCell c 8) () (amt 8))
        ∗ atPos ER (dCell c 8) 0 ∅ 0
        ∗ cred (tallyAt (dCell c 9) () (amt 9))
        ∗ atPos ER (dCell c 9) 0 ∅ 0
        ∗ atXb c (xBf m ρ c)
        ∗ (∃ f, atO c (rcR 2).set f))
      ⊢ iprop((∀ v, (dues c [9]
          ∗ cred (tallyAt (dCell c 10) () (amt 10))
          ∗ atPos ER (dCell c 8) 1 ∅ 0
          ∗ atPos ER (dCell c 9) 1 ∅ 0
          ∗ atW c (rcW 2).set fullShare (wAll m ρ c)
          ∗ atXb c (xBf m ρ c)
          ∗ (∃ f, atO c (rcR 2).set f)) -∗ WP c (k ⟨prodB m ρ c (tgt 2 c), v⟩) Q) -∗ WP c (P7 c v13 v24 >>= k) Q) := by
  unfold P7
  simp only [k0_part7_eq_skeleton]; unfold k0_part7_skel
  simp only [semSignalWord, semWaitWord, Prog.lift, Prog.bind_op, Prog.bind_ret, Prog.pure_eq_ret]
  iintro ⟨#HR, #Hlev, HO, HO0, HRI, Hs10, Hs13, Hc8, Ha8, Hc9, Ha9, HXB, HO2⟩ Hk
  icases HRI with ⟨%fd8, HRI⟩
  iapply (step_send m ρ K c _ 8 (dev9_eq c) [9] 10 13 sem8_0 sem9_0 rfl (by decide) (by decide) (ss := oSl 0) (dd := iSl 0) rfl rfl
      fullShare (rOut m ρ c) (by rw [set_oSl]; exact BI.Entails.refl _) (rIn m ρ (rgt c)) (land_r m ρ c (rgt c) 0 (lft_rgt c) rfl)
      (by rw [set_iSl]; exact BI.Entails.refl _)) $$ [HO0 HRI HO Hs10 Hs13]
  · isplitr; · iexact HR
    isplitl [HO0]; · rw [set_oSl]; iexact HO0
    isplitl [HRI]; · iexists fd8; rw [set_iSl]; iexact HRI
    isplitl [HO]; · iexact HO
    isplitl [Hs10]; · iexact Hs10
    iexact Hs13
  iintro ⟨Hc10, HO⟩
  iapply (step_wait m ρ K c 8 0 [9] (by decide) (by decide) sem7_2 (ss := wHf 0 0) (dd := wHf 2 0) rfl) $$ [Hc8 HO Ha8]
  · isplitr; · iexact HR
    isplitr; · iexact Hlev
    isplitl [Hc8]; · iexact Hc8
    isplitl [HO]; · iexact HO
    iexact Ha8
  iintro ⟨HO, Ha8, -, HW0⟩
  ihave HW0 := (Entails.of_eq (pay_8 m ρ c)) $$ HW0
  iapply (step_wait m ρ K c 9 0 [9] (by decide) (by decide) sem7_3 (ss := wHf 1 1) (dd := wHf 2 1) rfl) $$ [Hc9 HO Ha9]
  · isplitr; · iexact HR
    isplitr; · iexact Hlev
    isplitl [Hc9]; · iexact Hc9
    isplitl [HO]; · iexact HO
    iexact Ha9
  iintro ⟨HO, Ha9, -, HW1⟩
  ihave HW1 := (Entails.of_eq (pay_9 m ρ c)) $$ HW1
  ihave HW := (halves_W c (wAll m ρ c)).2 $$ [HW0 HW1]
  · isplitl [HW0] <;> iassumption
  icases HO2 with ⟨%f1, HO2⟩
  iapply (load_w c 2 fullShare (wAll m ρ c)) $$ HW; iintro HW
  iapply (load_xb c (xBf m ρ c)) $$ HXB; iintro HXB
  iapply (load_o c 2 f1) $$ HO2; iintro HO2
  rw [pay9_eq]
  ihave HO2 := (exists_intro (Φ := fun f => atO c (rcR 2).set f) f1) $$ HO2
  iapply Hk
  isplitl [HO]; · iexact HO
  isplitl [Hc10]; · iexact Hc10
  isplitl [Ha8]; · iexact Ha8
  isplitl [Ha9]; · iexact Ha9
  isplitl [HW]; · iexact HW
  isplitl [HXB]; · iexact HXB
  iexact HO2

/-! ## The blocks that arrive -/

/-- The kernel's eighth part on device `c`. -/
abbrev P8 (c : Dev nD) (v2 : BitVec 32) (v13 : BitVec 32) (v35 : BitVec 32) (v195 : FVec F S1024x512 .bf16) (v196 : Vec F S1x1024x512 .bf16) : Prog (TpuEff nD τ sig (Elt F) Λ₀ .tc) (BitVec 32) :=
  k0_part8 xH (Memref.isWhole_whole _) wS (Memref.isWhole_whole _) oS (Memref.isWhole_whole _) wI (Memref.isWhole_whole _)
    rO (Memref.isWhole_whole _) rI (Memref.isWhole_whole _) xB (Memref.isWhole_whole _) wB (Memref.isWhole_whole _) xS (Memref.isWhole_whole _)
    cc0_scratch6 cc0_scratch7 cc0_scratch8 cc0_scratch9 cc0_scratch10 c v2 v13 v35 v195 v196

set_option maxHeartbeats 1000000 in
/-- The device sends the device opposite its block, waits for the left neighbour's block and stores it in the result. -/
theorem part8 {α : Type} {Q : α → sProp 𝕄} (c : Dev nD) (v2 v13 v35 : BitVec 32) (v196 : Vec F S1x1024x512 .bf16) (k : BitVec 32 → Prog (TpuEff nD τ sig (Elt F) Λ₀ .tc) α) :
    iprop(records m ρ K
        ∗ levAts L lv
        ∗ dues c [9]
        ∗ (∃ f, atO c (rcR 2).set f)
        ∗ (∃ f, atI (dia c) (rcR 2).set f)
        ∗ dutyTok ER (dCell c 12) 0 0
        ∗ dutyTok ER (dCell (dia c) 15) 0 0
        ∗ cred (tallyAt (dCell c 13) () (amt 13))
        ∗ atPos ER (dCell c 13) 0 ∅ 0
        ∗ oHas m ρ c (∅ ∪ (rcO c).set))
      ⊢ iprop(((dues c []
          ∗ cred (tallyAt (dCell c 12) () (amt 12))
          ∗ atPos ER (dCell c 13) 1 ∅ 0
          ∗ atI c (rcR 0).set (rIn m ρ c)
          ∗ oHas m ρ c ((∅ ∪ (rcO c).set) ∪ (rcO (src 0 c)).set)) -∗ WP c (k 1#32) Q) -∗ WP c (P8 c v2 v13 v35 (prodB m ρ c (tgt 2 c)) v196 >>= k) Q) := by
  unfold P8
  simp only [k0_part8_eq_skeleton]; unfold k0_part8_skel
  simp only [semSignalWord, semWaitWord, Prog.lift, Prog.bind_op, Prog.bind_ret, Prog.pure_eq_ret]
  iintro ⟨#HR, #Hlev, HO, HO2, HD, Hs12, Hs15, Hc13, Ha13, Hout⟩ Hk
  icases HO2 with ⟨%f1, HO2⟩
  iapply (store_o m ρ c 2 f1 _ (pay10_eq m ρ c)) $$ HO2; iintro HO2
  icases HD with ⟨%fd9, HD⟩
  iapply (step_send m ρ K c _ 9 (dev10_eq c) [] 12 15 sem8_2 sem9_2 rfl (by decide) (by decide) (ss := oSl 2) (dd := iSl 2) rfl rfl
      fullShare (rOut m ρ c) (by rw [set_oSl]; exact BI.Entails.refl _) (rIn m ρ (dia c)) (land_r m ρ c (dia c) 2 (dia_dia c) rfl)
      (by rw [set_iSl]; exact BI.Entails.refl _)) $$ [HO2 HD HO Hs12 Hs15]
  · isplitr; · iexact HR
    isplitl [HO2]; · rw [set_oSl]; iexact HO2
    isplitl [HD]; · iexists fd9; rw [set_iSl]; iexact HD
    isplitl [HO]; · iexact HO
    isplitl [Hs12]; · iexact Hs12
    iexact Hs15
  iintro ⟨Hc12, HO⟩
  iapply (step_wait m ρ K c 13 0 [] (by decide) (fun i hi => absurd hi List.not_mem_nil) sem9_0 (ss := oSl 2) (dd := iSl 0) rfl) $$ [Hc13 HO Ha13]
  · isplitr; · iexact HR
    isplitr; · iexact Hlev
    isplitl [Hc13]; · iexact Hc13
    isplitl [HO]; · iexact HO
    iexact Ha13
  iintro ⟨HO, Ha13, -, HI0⟩
  ihave HI0 := (Entails.of_eq (pay_13 m ρ c)) $$ HI0
  iapply (load_i c 0 (rIn m ρ c)) $$ HI0; iintro HI0
  iapply (load_r m ρ c (src 0 c) (off2_eq c) _) $$ Hout; iintro Hout
  iapply (store_r m ρ c (src 0 c) (off2_eq c) _ _ (pay11_eq m ρ c)) $$ Hout; iintro Hout
  iapply Hk
  isplitl [HO]; · iexact HO
  isplitl [Hc12]; · iexact Hc12
  isplitl [Ha13]; · iexact Ha13
  isplitl [HI0]; · iexact HI0
  iexact Hout

/-- The kernel's ninth part on device `c`. -/
abbrev P9 (c : Dev nD) (v2 : BitVec 32) (v24 : BitVec 32) (v35 : BitVec 32) (c1 : BitVec 32) : Prog (TpuEff nD τ sig (Elt F) Λ₀ .tc) PUnit :=
  k0_part9 xH (Memref.isWhole_whole _) wS (Memref.isWhole_whole _) oS (Memref.isWhole_whole _) wI (Memref.isWhole_whole _)
    rO (Memref.isWhole_whole _) rI (Memref.isWhole_whole _) xB (Memref.isWhole_whole _) wB (Memref.isWhole_whole _) xS (Memref.isWhole_whole _)
    cc0_scratch6 cc0_scratch7 cc0_scratch8 cc0_scratch9 cc0_scratch10 c v2 v24 v35 c1

set_option maxHeartbeats 1000000 in
/-- The device waits for the other two blocks and stores them in the result. -/
theorem part9 {α : Type} {Q : α → sProp 𝕄} (c : Dev nD) (v2 v24 v35 : BitVec 32) (k : PUnit → Prog (TpuEff nD τ sig (Elt F) Λ₀ .tc) α) :
    iprop(records m ρ K
        ∗ levAts L lv
        ∗ dues c []
        ∗ cred (tallyAt (dCell c 14) () (amt 14))
        ∗ atPos ER (dCell c 14) 0 ∅ 0
        ∗ cred (tallyAt (dCell c 15) () (amt 15))
        ∗ atPos ER (dCell c 15) 0 ∅ 0
        ∗ oHas m ρ c ((∅ ∪ (rcO c).set) ∪ (rcO (src 0 c)).set))
      ⊢ iprop(((dues c []
          ∗ atPos ER (dCell c 14) 1 ∅ 0
          ∗ atPos ER (dCell c 15) 1 ∅ 0
          ∗ atI c (rcR 1).set (rIn m ρ c)
          ∗ atI c (rcR 2).set (rIn m ρ c)
          ∗ atOut c (outAt m ρ c)) -∗ WP c (k ⟨⟩) Q) -∗ WP c (P9 c v2 v24 v35 1#32 >>= k) Q) := by
  unfold P9
  simp only [k0_part9_eq_skeleton]; unfold k0_part9_skel
  simp only [semSignalWord, semWaitWord, Prog.lift, Prog.bind_op, Prog.bind_ret, Prog.pure_eq_ret]
  iintro ⟨#HR, #Hlev, HO, Hc14, Ha14, Hc15, Ha15, Hout⟩ Hk
  iapply (step_wait m ρ K c 14 0 [] (by decide) (fun i hi => absurd hi List.not_mem_nil) sem9_1 (ss := oSl 2) (dd := iSl 1) rfl) $$ [Hc14 HO Ha14]
  · isplitr; · iexact HR
    isplitr; · iexact Hlev
    isplitl [Hc14]; · iexact Hc14
    isplitl [HO]; · iexact HO
    iexact Ha14
  iintro ⟨HO, Ha14, -, HI1⟩
  ihave HI1 := (Entails.of_eq (pay_14 m ρ c)) $$ HI1
  iapply (load_i c 1 (rIn m ρ c)) $$ HI1; iintro HI1
  iapply (load_r m ρ c (src 1 c) (off3_eq1 c) _) $$ Hout; iintro Hout
  iapply (store_r m ρ c (src 1 c) (off3_eq1 c) _ _ (pay12_eq m ρ c)) $$ Hout; iintro Hout
  iapply (step_wait m ρ K c 15 0 [] (by decide) (fun i hi => absurd hi List.not_mem_nil) sem9_2 (ss := oSl 2) (dd := iSl 2) rfl) $$ [Hc15 HO Ha15]
  · isplitr; · iexact HR
    isplitr; · iexact Hlev
    isplitl [Hc15]; · iexact Hc15
    isplitl [HO]; · iexact HO
    iexact Ha15
  iintro ⟨HO, Ha15, -, HI2⟩
  ihave HI2 := (Entails.of_eq (pay_15 m ρ c)) $$ HI2
  iapply (load_i c 2 (rIn m ρ c)) $$ HI2; iintro HI2
  iapply (load_r m ρ c (src 2 c) (off3_eq2 c) _) $$ Hout; iintro Hout
  iapply (store_r m ρ c (src 2 c) (off3_eq2 c) _ _ (pay13_eq m ρ c)) $$ Hout; iintro Hout
  ihave Hout := (oHas_all m ρ c) $$ Hout
  iapply Hk
  isplitl [HO]; · iexact HO
  isplitl [Ha14]; · iexact Ha14
  isplitl [Ha15]; · iexact Ha15
  isplitl [HI1]; · iexact HI1
  isplitl [HI2]; · iexact HI2
  iexact Hout

/-! ## The copies that left -/

/-- The kernel's tenth part on device `c`. -/
abbrev P10 (c : Dev nD) : Prog (TpuEff nD τ sig (Elt F) Λ₀ .tc) PUnit :=
  k0_part10 xH (Memref.isWhole_whole _) wS (Memref.isWhole_whole _) oS (Memref.isWhole_whole _) wI (Memref.isWhole_whole _)
    rO (Memref.isWhole_whole _) rI (Memref.isWhole_whole _) xB (Memref.isWhole_whole _) wB (Memref.isWhole_whole _) xS (Memref.isWhole_whole _)
    cc0_scratch6 cc0_scratch7 cc0_scratch8 cc0_scratch9 cc0_scratch10

set_option maxHeartbeats 1000000 in
/-- The device waits until its columns of `w` and the halves it passed on have left. -/
theorem part10 {α : Type} {Q : α → sProp 𝕄} (c : Dev nD) (k : PUnit → Prog (TpuEff nD τ sig (Elt F) Λ₀ .tc) α) :
    iprop(records m ρ K
        ∗ levAts L lv
        ∗ dues c []
        ∗ cred (tallyAt (dCell c 2) () (amt 2))
        ∗ atPos ER (dCell c 2) 0 ∅ 0
        ∗ cred (tallyAt (dCell c 3) () (amt 3))
        ∗ atPos ER (dCell c 3) 0 ∅ 0
        ∗ cred (tallyAt (dCell c 4) () (amt 4))
        ∗ atPos ER (dCell c 4) 0 ∅ 0
        ∗ cred (tallyAt (dCell c 5) () (amt 5))
        ∗ atPos ER (dCell c 5) 0 ∅ 0)
      ⊢ iprop(((dues c []
          ∗ atPos ER (dCell c 2) 1 ∅ 0
          ∗ atPos ER (dCell c 3) 1 ∅ 0
          ∗ atPos ER (dCell c 4) 1 ∅ 0
          ∗ atPos ER (dCell c 5) 1 ∅ 0
          ∗ atB c fullShare.right.left (wBf m ρ c)
          ∗ atB c fullShare.right.right (wBf m ρ c)
          ∗ atW c (rcH 0 0).set fullShare.right (wAll m ρ c)
          ∗ atW c (rcH 1 1).set fullShare.right (wAll m ρ c)) -∗ WP c (k ⟨⟩) Q) -∗ WP c (P10 c  >>= k) Q) := by
  unfold P10
  simp only [k0_part10_eq_skeleton]; unfold k0_part10_skel
  simp only [semSignalWord, semWaitWord, Prog.lift, Prog.bind_op, Prog.bind_ret, Prog.pure_eq_ret]
  iintro ⟨#HR, #Hlev, HO, Hc2, Ha2, Hc3, Ha3, Hc4, Ha4, Hc5, Ha5⟩ Hk
  iapply (step_wait m ρ K c 2 0 [] (by decide) (fun i hi => absurd hi List.not_mem_nil) sem6_0 (ss := wSl 0) (dd := wB) rfl) $$ [Hc2 HO Ha2]
  · isplitr; · iexact HR
    isplitr; · iexact Hlev
    isplitl [Hc2]; · iexact Hc2
    isplitl [HO]; · iexact HO
    iexact Ha2
  iintro ⟨HO, Ha2, -, H2⟩
  ihave H2 := (Entails.of_eq (pay_2 m ρ c)) $$ H2
  iapply (step_wait m ρ K c 3 0 [] (by decide) (fun i hi => absurd hi List.not_mem_nil) sem6_1 (ss := wSl 1) (dd := wB) rfl) $$ [Hc3 HO Ha3]
  · isplitr; · iexact HR
    isplitr; · iexact Hlev
    isplitl [Hc3]; · iexact Hc3
    isplitl [HO]; · iexact HO
    iexact Ha3
  iintro ⟨HO, Ha3, -, H3⟩
  ihave H3 := (Entails.of_eq (pay_3 m ρ c)) $$ H3
  iapply (step_wait m ρ K c 4 0 [] (by decide) (fun i hi => absurd hi List.not_mem_nil) sem6_2 (ss := wHf 2 0) (dd := wHf 0 0) rfl) $$ [Hc4 HO Ha4]
  · isplitr; · iexact HR
    isplitr; · iexact Hlev
    isplitl [Hc4]; · iexact Hc4
    isplitl [HO]; · iexact HO
    iexact Ha4
  iintro ⟨HO, Ha4, -, H4⟩
  ihave H4 := (Entails.of_eq (pay_4 m ρ c)) $$ H4
  iapply (step_wait m ρ K c 5 0 [] (by decide) (fun i hi => absurd hi List.not_mem_nil) sem6_3 (ss := wHf 2 1) (dd := wHf 1 1) rfl) $$ [Hc5 HO Ha5]
  · isplitr; · iexact HR
    isplitr; · iexact Hlev
    isplitl [Hc5]; · iexact Hc5
    isplitl [HO]; · iexact HO
    iexact Ha5
  iintro ⟨HO, Ha5, -, H5⟩
  ihave H5 := (Entails.of_eq (pay_5 m ρ c)) $$ H5
  iapply Hk
  isplitl [HO]; · iexact HO
  isplitl [Ha2]; · iexact Ha2
  isplitl [Ha3]; · iexact Ha3
  isplitl [Ha4]; · iexact Ha4
  isplitl [Ha5]; · iexact Ha5
  isplitl [H2]; · iexact H2
  isplitl [H3]; · iexact H3
  isplitl [H4]; · iexact H4
  iexact H5

end Cert.Exchange

end
-- ==== Proof.Body.lean ====
/-
The kernel's whole body on one device: its parts in order, the last three waits, and what the device has when it
is through: its buffers whole, every semaphore at zero, the result.
-/
module

public import proofs.«01_k».proof.Proof.Parts2
public import proofs.«01_k».proof.Proof.Gen.KernelIdeal.Points

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 16 → ℕ)

/-! ## The tokens of the payments -/

/-- The cell, among a device's sixteen, that the `j`-th token is for. -/
def tokCell (j : Fin 21) : Fin 16 := if j.val < 3 then 0 else if h : j.val < 17 then ⟨j.val - 2, by omega⟩ else 15
/-- Its round. -/
def tokRound (j : Fin 21) : ℕ := if j.val < 17 then 0 else j.val - 17
/-- Its duty. -/
def tokDuty (j : Fin 21) : Fin 3 := if j = 1 then 1 else if j = 2 then 2 else 0
/-- A device's neighbour to the left, as a permutation of the devices. -/
def lftE : Dev nD ≃ Dev nD := ⟨lft, rgt, rgt_lft, lft_rgt⟩
/-- A device's neighbour to the right. -/
def rgtE : Dev nD ≃ Dev nD := ⟨rgt, lft, lft_rgt, rgt_lft⟩
/-- The device opposite. -/
def diaE : Dev nD ≃ Dev nD := ⟨dia, dia, dia_dia, dia_dia⟩
/-- The device whose cell the holder of the `j`-th token pays. -/
def payE (j : Fin 21) : Dev nD ≃ Dev nD := match j with
  | 0 | 7 | 9 | 14 => rgtE | 1 | 8 | 10 | 15 => lftE | 2 | 16 => diaE | _ => Equiv.refl _
/-- The `j`-th token for a cell of device `c`. -/
def tokAt (c : Dev nD) (j : Fin 21) : sProp 𝕄 := dutyTok ER (kcell (c, tokCell j)) (tokRound j) (tokDuty j)
/-- The tokens with which device `c` pays. -/
def payToks (c : Dev nD) : sProp 𝕄 := bigSep Finset.univ fun j : Fin 21 => tokAt (payE j c) j
/-- Where device `c` stands at each of its cells at the start. -/
def starts (c : Dev nD) : sProp 𝕄 := bigSep Finset.univ fun k : Fin 16 => atPos ER (kcell (c, k)) 0 ∅ 0
/-- How many rounds each cell goes through. -/
def lastRound (k : Fin 16) : ℕ := if k = 15 then 4 else 1

theorem payToks_eq (c : Dev nD) : (payToks c : sProp 𝕄)
    = iprop(dutyTok ER (barCell (rgt c)) 0 0
        ∗ dutyTok ER (barCell (lft c)) 0 1
        ∗ dutyTok ER (barCell (dia c)) 0 2
        ∗ dutyTok ER (dCell c 2) 0 0
        ∗ dutyTok ER (dCell c 3) 0 0
        ∗ dutyTok ER (dCell c 4) 0 0
        ∗ dutyTok ER (dCell c 5) 0 0
        ∗ dutyTok ER (dCell (rgt c) 6) 0 0
        ∗ dutyTok ER (dCell (lft c) 7) 0 0
        ∗ dutyTok ER (dCell (rgt c) 8) 0 0
        ∗ dutyTok ER (dCell (lft c) 9) 0 0
        ∗ dutyTok ER (dCell c 10) 0 0
        ∗ dutyTok ER (dCell c 11) 0 0
        ∗ dutyTok ER (dCell c 12) 0 0
        ∗ dutyTok ER (dCell (rgt c) 13) 0 0
        ∗ dutyTok ER (dCell (lft c) 14) 0 0
        ∗ dutyTok ER (dCell (dia c) 15) 0 0
        ∗ dutyTok ER (dCell c 16) 0 0
        ∗ dutyTok ER (dCell c 16) 1 0
        ∗ dutyTok ER (dCell c 16) 2 0
        ∗ dutyTok ER (dCell c 16) 3 0) := by
  unfold payToks
  rw [bigSep_univ_eq_bigSepL [0, 1, 2, 3, 4, 5, 6, 7, 8, 9, 10, 11, 12, 13, 14, 15, 16, 17, 18, 19, 20] (by decide) (by decide)]
  rfl

theorem starts_eq (c : Dev nD) : (starts c : sProp 𝕄)
    = iprop(atPos ER (barCell c) 0 ∅ 0
        ∗ atPos ER (dCell c 2) 0 ∅ 0
        ∗ atPos ER (dCell c 3) 0 ∅ 0
        ∗ atPos ER (dCell c 4) 0 ∅ 0
        ∗ atPos ER (dCell c 5) 0 ∅ 0
        ∗ atPos ER (dCell c 6) 0 ∅ 0
        ∗ atPos ER (dCell c 7) 0 ∅ 0
        ∗ atPos ER (dCell c 8) 0 ∅ 0
        ∗ atPos ER (dCell c 9) 0 ∅ 0
        ∗ atPos ER (dCell c 10) 0 ∅ 0
        ∗ atPos ER (dCell c 11) 0 ∅ 0
        ∗ atPos ER (dCell c 12) 0 ∅ 0
        ∗ atPos ER (dCell c 13) 0 ∅ 0
        ∗ atPos ER (dCell c 14) 0 ∅ 0
        ∗ atPos ER (dCell c 15) 0 ∅ 0
        ∗ atPos ER (dCell c 16) 0 ∅ 0) := by
  unfold starts
  rw [bigSep_univ_eq_bigSepL [0, 1, 2, 3, 4, 5, 6, 7, 8, 9, 10, 11, 12, 13, 14, 15] (by decide) (by decide)]
  rfl

theorem duties_last (c : Dev nD) (k : Fin 16) : ∀ r, lastRound k ≤ r → (Rd (F := F) m ρ).duties (kcell (c, k)) r = ∅ := by
  refine Fin.cases (fun r hr => duties_bar_later m ρ c r hr) (fun i r hr => ?_) k
  show (Rd m ρ).duties (dCell c (⟨i.val + 2, by omega⟩ : Fin 17)) r = ∅
  by_cases h : i = 14
  · subst h; exact duties_stage_later m ρ c r hr
  · have hi : i.val ≠ 14 := fun e => h (Fin.ext e)
    refine duties_dma_later m ρ c _ (by show i.val + 2 ≠ 16; omega) r ?_
    have hk : lastRound i.succ = 1 := by
      unfold lastRound
      rw [if_neg fun e => hi (by have := congrArg Fin.val e; simp at this; omega)]
    rw [hk] at hr; exact hr

theorem inv_cell (c : Dev nD) (k : Fin 16) : records m ρ K ⊢ cellInv ER (Rd m ρ) (K (c, k)) (kcell (c, k)) := by
  unfold records
  exact sep_elim_left.trans (bigSep_elim (Finset.mem_univ (c, k)))

/-- A device that has been through all rounds of its cells has every counter back, at zero. -/
theorem close_all (c : Dev nD) : iprop(records m ρ K ∗ bigSep Finset.univ fun k : Fin 16 => atPos ER (kcell (c, k)) (lastRound k) ∅ 0)
    ⊢ (|={Set.univ}=> bigSep Finset.univ fun k : Fin 16 => semVal (kcell (c, k)) 0 : sProp 𝕄) := by
  have h (k : Fin 16) : iprop(records m ρ K ∗ atPos ER (kcell (c, k)) (lastRound k) ∅ 0) ⊢ (|={Set.univ}=> semVal (kcell (c, k)) 0 : sProp 𝕄) := by
    iintro ⟨#HR, Hat⟩
    iapply (Rounds.cell_close ER (Rd m ρ) (Set.mem_univ (K (c, k))) (fun h => h) (R := lastRound k) (duties_last m ρ c k)) $$ [Hat]
    isplitr
    · iapply (inv_cell m ρ K c k); iexact HR
    · iexact Hat
  refine (sep_mono_left (BI.bigSep_of_persistent (Finset.univ : Finset (Fin 16)) (records m ρ K))).trans ?_
  rw [← bigSep_sep']
  exact (bigSep_mono fun k _ => h k).trans (bigSep_fupd _ _)

theorem ends_eq (c : Dev nD) : (bigSep Finset.univ fun k : Fin 16 => atPos ER (kcell (c, k)) (lastRound k) ∅ 0 : sProp 𝕄)
    = iprop(atPos ER (barCell c) 1 ∅ 0
        ∗ atPos ER (dCell c 2) 1 ∅ 0
        ∗ atPos ER (dCell c 3) 1 ∅ 0
        ∗ atPos ER (dCell c 4) 1 ∅ 0
        ∗ atPos ER (dCell c 5) 1 ∅ 0
        ∗ atPos ER (dCell c 6) 1 ∅ 0
        ∗ atPos ER (dCell c 7) 1 ∅ 0
        ∗ atPos ER (dCell c 8) 1 ∅ 0
        ∗ atPos ER (dCell c 9) 1 ∅ 0
        ∗ atPos ER (dCell c 10) 1 ∅ 0
        ∗ atPos ER (dCell c 11) 1 ∅ 0
        ∗ atPos ER (dCell c 12) 1 ∅ 0
        ∗ atPos ER (dCell c 13) 1 ∅ 0
        ∗ atPos ER (dCell c 14) 1 ∅ 0
        ∗ atPos ER (dCell c 15) 1 ∅ 0
        ∗ atPos ER (dCell c 16) 4 ∅ 0) := by
  rw [bigSep_univ_eq_bigSepL [0, 1, 2, 3, 4, 5, 6, 7, 8, 9, 10, 11, 12, 13, 14, 15] (by decide) (by decide)]
  rfl

/-- The credits for what the others will pay device `c`. -/
def credits (c : Dev nD) : sProp 𝕄 :=
  iprop(cred (tallyAt (barCell c) () 3)
    ∗ cred (tallyAt (dCell c 6) () (amt 6))
    ∗ cred (tallyAt (dCell c 7) () (amt 7))
    ∗ cred (tallyAt (dCell c 8) () (amt 8))
    ∗ cred (tallyAt (dCell c 9) () (amt 9))
    ∗ cred (tallyAt (dCell c 13) () (amt 13))
    ∗ cred (tallyAt (dCell c 14) () (amt 14))
    ∗ cred (tallyAt (dCell c 15) () (amt 15)))

/-- The exchange's part of what device `c` starts from. -/
def ghost (c : Dev nD) : sProp 𝕄 := iprop(records m ρ K ∗ starts c ∗ payToks c)

/-- What device `c` starts from: that, at some names, the credits, the levels and its rows of `x`. -/
def start (c : Dev nD) : sProp 𝕄 :=
  iprop((∃ K, ghost m ρ K c) ∗ credits c ∗ levAts L lv ∗ atX c Finset.univ fullShare (xIn m ρ c))

/-- The buffers of the kernel's own, at any contents. -/
def scratch (c : Dev nD) : sProp 𝕄 :=
  iprop((∃ f, atW c Finset.univ fullShare f) ∗ (∃ f, atO c Finset.univ f) ∗ (∃ f, atI c Finset.univ f) ∗ (∃ f, atXb c f)
    ∗ (∃ f, atB c fullShare f) ∗ (∃ f, atS c f))

def Φ₀ (c : Dev nD) : sProp 𝕄 := iprop(start m ρ c ∗ scratch c)
/-- What it has at the end: its rows of `x`, its buffers, every counter at zero. -/
def Φ₁ (c : Dev nD) : sProp 𝕄 :=
  iprop(atX c Finset.univ fullShare (xIn m ρ c) ∗ scratch c ∗ bigSep Finset.univ fun k : Fin 16 => semVal (kcell (c, k)) 0)

/-! ## The buffers whole again -/

theorem whole_W (c : Dev nD) :
    iprop(atW c (rcW 0).set fullShare.left (wAll m ρ c) ∗ atW c (rcH 0 0).set fullShare.right (wAll m ρ c) ∗ atW c (rcH 0 1).set fullShare.right (wAll m ρ c)
        ∗ atW c (rcW 1).set fullShare.left (wAll m ρ c) ∗ atW c (rcH 1 0).set fullShare.right (wAll m ρ c) ∗ atW c (rcH 1 1).set fullShare.right (wAll m ρ c)
        ∗ atW c (rcW 2).set fullShare (wAll m ρ c))
      ⊢ atW c Finset.univ fullShare (wAll m ρ c) := by
  iintro ⟨H0, H1, H2, H3, H4, H5, H6⟩
  ihave Ha := (share_W c 0 (wAll m ρ c)).2 $$ [H0 H1 H2]
  · isplitl [H0]; · iexact H0
    isplitl [H1] <;> iassumption
  ihave Hb := (share_W c 1 (wAll m ρ c)).2 $$ [H3 H4 H5]
  · isplitl [H3]; · iexact H3
    isplitl [H4] <;> iassumption
  ihave Hc := (halves_W c (wAll m ρ c)).1 $$ H6
  icases Hc with ⟨Hc, Hd⟩
  iapply (split_W c (wAll m ρ c)).2
  isplitl [Ha]; · iexact Ha
  isplitl [Hb]; · iexact Hb
  isplitl [Hc] <;> iassumption

/-! ## The body -/

/-- The kernel's body on device `c`. -/
abbrev bodyC : Prog (TpuEff nD τ sig (Elt F) Λ₀ .tc) PUnit :=
  cc0_body xH (Memref.isWhole_whole _) wS (Memref.isWhole_whole _) oS (Memref.isWhole_whole _) wI (Memref.isWhole_whole _)
    rO (Memref.isWhole_whole _) rI (Memref.isWhole_whole _) xB (Memref.isWhole_whole _) wB (Memref.isWhole_whole _) xS (Memref.isWhole_whole _)
    cc0_scratch6 cc0_scratch7 cc0_scratch8 cc0_scratch9 cc0_scratch10

set_option maxHeartbeats 4000000 in
set_option maxRecDepth 8000 in
/-- The body on device `c`, from what the device starts from to what it has at the end. -/
theorem sound_body (c : Dev nD) (Q : PUnit → sProp 𝕄) :
    iprop(ghost m ρ K c ∗ credits c ∗ levAts L lv ∗ atX c Finset.univ fullShare (xIn m ρ c) ∗ scratch c ∗ dues c allDues
        ∗ atWs m ρ c ∗ (∃ f, atOut c f))
      ⊢ iprop(((Φ₁ m ρ c ∗ dues c [] ∗ atWs m ρ c ∗ atOut c (outAt m ρ c)) -∗ Q ⟨⟩) -∗ WP c bodyC Q) := by
  unfold bodyC
  simp only [cc0_body_eq_skeleton]; unfold cc0_body_skel
  simp only [k0_part1_eq_skeleton]; unfold k0_part1_skel
  simp only [Prog.lift, Prog.bind_op, Prog.bind_ret, Prog.pure_eq_ret, wp_deviceId]
  unfold ghost credits scratch
  iintro ⟨⟨#HR, Hpos, Htok⟩, ⟨Hcb, Hc6, Hc7, Hc8, Hc9, Hc13, Hc14, Hc15⟩, #Hlev, HX, ⟨HW, HO, HI, ⟨%f3, HXb⟩, HB, HS⟩, Hd, Hws, ⟨%fo, Hout⟩⟩ Hk
  ihave Hpos := (Entails.of_eq (starts_eq (F := F) c)) $$ Hpos
  icases Hpos with ⟨Hab, Ha2, Ha3, Ha4, Ha5, Ha6, Ha7, Ha8, Ha9, Ha10, Ha11, Ha12, Ha13, Ha14, Ha15, Ha16⟩
  ihave Htok := (Entails.of_eq (payToks_eq (F := F) c)) $$ Htok
  icases Htok with ⟨Ht0, Ht1, Ht2, Ht3, Ht4, Ht5, Ht6, Ht7, Ht8, Ht9, Ht10, Ht11, Ht12, Ht13, Ht14, Ht15, Ht16, Ht17, Ht18, Ht19, Ht20⟩
  ihave HX := (split_X c (xIn m ρ c)).1 $$ HX
  icases HX with ⟨HX0, HX1, HX2, HX3⟩
  ihave HXb := (xHas_none m ρ c f3) $$ HXb
  ihave Hout := (oHas_none m ρ c fo) $$ Hout
  iapply (part2 m ρ K c _ _ _ _) $$ [Hd Ht1 Ht0 Ht2 HW HI Hws HB Hcb Hab Ht3 Ht7]
  · isplitr; · iexact HR
    isplitr; · iexact Hlev
    isplitl [Hd]; · iexact Hd
    isplitl [Ht1]; · iexact Ht1
    isplitl [Ht0]; · iexact Ht0
    isplitl [Ht2]; · iexact Ht2
    isplitl [HW]; · iexact HW
    isplitl [HI]; · iexact HI
    isplitl [Hws]; · iexact Hws
    isplitl [HB]; · iexact HB
    isplitl [Hcb]; · iexact Hcb
    isplitl [Hab]; · iexact Hab
    isplitl [Ht3]; · iexact Ht3
    iexact Ht7
  iintro ⟨Hd, Hws, HBl, HBr, Hc2, Hab, HLW1, HLH, HLI, HRH, HRI, HDI⟩
  iapply (part3 m ρ K c _) $$ [Hd HBr HLW1 Ht4 Ht8 HX0 HX1 HX2 HS HXb Ha16 Ht17 Ht18 Ht19]
  · isplitr; · iexact HR
    isplitr; · iexact Hlev
    isplitl [Hd]; · iexact Hd
    isplitl [HBr]; · iexact HBr
    isplitl [HLW1]; · iexact HLW1
    isplitl [Ht4]; · iexact Ht4
    isplitl [Ht8]; · iexact Ht8
    isplitl [HX0]; · iexact HX0
    isplitl [HX1]; · iexact HX1
    isplitl [HX2]; · iexact HX2
    isplitl [HS]; · iexact HS
    isplitl [HXb]; · iexact HXb
    isplitl [Ha16]; · iexact Ha16
    isplitl [Ht17]; · iexact Ht17
    isplitl [Ht18]; · iexact Ht18
    iexact Ht19
  iintro ⟨Hd, Hc3, HX0, HX1, HX2, HS, HXb, Ha16, Hr16⟩
  iapply (part4 m ρ K c _ _ _) $$ [Hd HX3 HS HXb Ha16 Hr16 Ht20 HBl Hout Hc6 Ha6]
  · isplitr; · iexact HR
    isplitr; · iexact Hlev
    isplitl [Hd]; · iexact Hd
    isplitl [HX3]; · iexact HX3
    isplitl [HS]; · iexact HS
    isplitl [HXb]; · iexact HXb
    isplitl [Ha16]; · iexact Ha16
    isplitl [Hr16]; · iexact Hr16
    isplitl [Ht20]; · iexact Ht20
    isplitl [HBl]; · iexact HBl
    isplitl [Hout]; · iexact Hout
    isplitl [Hc6]; · iexact Hc6
    iexact Ha6
  iintro ⟨Hd, HX3, HS, HXb, Ha16, HBl, Hout, Ha6, HW0⟩
  icases HO with ⟨%f1, HO⟩
  ihave HO := (split_O c f1).1 $$ HO
  icases HO with ⟨HO0, HO1, HO2⟩
  ihave HO0 := (show atO c (rcR 0).set f1 ⊢ (iprop(∃ f, atO c (rcR 0).set f) : sProp 𝕄) from by iintro H; iexists f1; iexact H) $$ HO0
  ihave HO1 := (show atO c (rcR 1).set f1 ⊢ (iprop(∃ f, atO c (rcR 1).set f) : sProp 𝕄) from by iintro H; iexists f1; iexact H) $$ HO1
  ihave HO2 := (show atO c (rcR 2).set f1 ⊢ (iprop(∃ f, atO c (rcR 2).set f) : sProp 𝕄) from by iintro H; iexists f1; iexact H) $$ HO2
  iapply (part5 m ρ K c _ _) $$ [Hd HW0 HRH Ht5 Ht9 HXb HO1 HLI Ht12 Ht15]
  · isplitr; · iexact HR
    isplitl [Hd]; · iexact Hd
    isplitl [HW0]; · iexact HW0
    isplitl [HRH]; · iexact HRH
    isplitl [Ht5]; · iexact Ht5
    isplitl [Ht9]; · iexact Ht9
    isplitl [HXb]; · iexact HXb
    isplitl [HO1]; · iexact HO1
    isplitl [HLI]; · iexact HLI
    isplitl [Ht12]; · iexact Ht12
    iexact Ht15
  iintro ⟨Hd, HW0, HW0b, Hc4, HXb, Hc11⟩
  iapply (part6 m ρ K c _ _ _) $$ [Hd Hc7 Ha7 HLH Ht6 Ht10 HXb HO0]
  · isplitr; · iexact HR
    isplitr; · iexact Hlev
    isplitl [Hd]; · iexact Hd
    isplitl [Hc7]; · iexact Hc7
    isplitl [Ha7]; · iexact Ha7
    isplitl [HLH]; · iexact HLH
    isplitl [Ht6]; · iexact Ht6
    isplitl [Ht10]; · iexact Ht10
    isplitl [HXb]; · iexact HXb
    iexact HO0
  iintro ⟨Hd, Ha7, HW1, HW1a, Hc5, HXb, HO0⟩
  iapply (part7 m ρ K c _ _ _) $$ [Hd HO0 HRI Ht11 Ht14 Hc8 Ha8 Hc9 Ha9 HXb HO2]
  · isplitr; · iexact HR
    isplitr; · iexact Hlev
    isplitl [Hd]; · iexact Hd
    isplitl [HO0]; · iexact HO0
    isplitl [HRI]; · iexact HRI
    isplitl [Ht11]; · iexact Ht11
    isplitl [Ht14]; · iexact Ht14
    isplitl [Hc8]; · iexact Hc8
    isplitl [Ha8]; · iexact Ha8
    isplitl [Hc9]; · iexact Hc9
    isplitl [Ha9]; · iexact Ha9
    isplitl [HXb]; · iexact HXb
    iexact HO2
  iintro %v196 ⟨Hd, Hc10, Ha8, Ha9, HW2, HXb, HO2⟩
  iapply (part8 m ρ K c _ _ _ _ _) $$ [Hd HO2 HDI Ht13 Ht16 Hc13 Ha13 Hout]
  · isplitr; · iexact HR
    isplitr; · iexact Hlev
    isplitl [Hd]; · iexact Hd
    isplitl [HO2]; · iexact HO2
    isplitl [HDI]; · iexact HDI
    isplitl [Ht13]; · iexact Ht13
    isplitl [Ht16]; · iexact Ht16
    isplitl [Hc13]; · iexact Hc13
    isplitl [Ha13]; · iexact Ha13
    iexact Hout
  iintro ⟨Hd, Hc12, Ha13, HI0, Hout⟩
  iapply (part9 m ρ K c _ _ _ _) $$ [Hd Hc14 Ha14 Hc15 Ha15 Hout]
  · isplitr; · iexact HR
    isplitr; · iexact Hlev
    isplitl [Hd]; · iexact Hd
    isplitl [Hc14]; · iexact Hc14
    isplitl [Ha14]; · iexact Ha14
    isplitl [Hc15]; · iexact Hc15
    isplitl [Ha15]; · iexact Ha15
    iexact Hout
  iintro ⟨Hd, Ha14, Ha15, HI1, HI2, Hout⟩
  iapply (part10 m ρ K c _) $$ [Hd Hc2 Ha2 Hc3 Ha3 Hc4 Ha4 Hc5 Ha5]
  · isplitr; · iexact HR
    isplitr; · iexact Hlev
    isplitl [Hd]; · iexact Hd
    isplitl [Hc2]; · iexact Hc2
    isplitl [Ha2]; · iexact Ha2
    isplitl [Hc3]; · iexact Hc3
    isplitl [Ha3]; · iexact Ha3
    isplitl [Hc4]; · iexact Hc4
    isplitl [Ha4]; · iexact Ha4
    isplitl [Hc5]; · iexact Hc5
    iexact Ha5
  iintro ⟨Hd, Ha2, Ha3, Ha4, Ha5, HBm, HBr, HW0a, HW1b⟩
  iapply (step_wait m ρ K c 11 0 [] (by decide) (fun i hi => absurd hi List.not_mem_nil) sem8_1 (ss := iSl 1) (dd := oSl 1) rfl) $$ [Hc11 Hd Ha11]
  · isplitr; · iexact HR
    isplitr; · iexact Hlev
    isplitl [Hc11]; · iexact Hc11
    isplitl [Hd]; · iexact Hd
    iexact Ha11
  iintro ⟨Hd, Ha11, -, HO1⟩
  ihave HO1 := (Entails.of_eq (pay_11 m ρ c)) $$ HO1
  iapply (step_wait m ρ K c 10 0 [] (by decide) (fun i hi => absurd hi List.not_mem_nil) sem8_0 (ss := iSl 0) (dd := oSl 0) rfl) $$ [Hc10 Hd Ha10]
  · isplitr; · iexact HR
    isplitr; · iexact Hlev
    isplitl [Hc10]; · iexact Hc10
    isplitl [Hd]; · iexact Hd
    iexact Ha10
  iintro ⟨Hd, Ha10, -, HO0⟩
  ihave HO0 := (Entails.of_eq (pay_10 m ρ c)) $$ HO0
  iapply (step_wait m ρ K c 12 0 [] (by decide) (fun i hi => absurd hi List.not_mem_nil) sem8_2 (ss := iSl 2) (dd := oSl 2) rfl) $$ [Hc12 Hd Ha12]
  · isplitr; · iexact HR
    isplitr; · iexact Hlev
    isplitl [Hc12]; · iexact Hc12
    isplitl [Hd]; · iexact Hd
    iexact Ha12
  iintro ⟨Hd, Ha12, -, HO2⟩
  ihave HO2 := (Entails.of_eq (pay_12 m ρ c)) $$ HO2
  imod (close_all m ρ K c) $$ [Hab Ha2 Ha3 Ha4 Ha5 Ha6 Ha7 Ha8 Ha9 Ha10 Ha11 Ha12 Ha13 Ha14 Ha15 Ha16] with Hz
  · isplitr; · iexact HR
    iapply (Entails.of_eq (ends_eq (F := F) c).symm)
    isplitl [Hab]; · iexact Hab
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [Ha12]; · iexact Ha12
    isplitl [Ha13]; · iexact Ha13
    isplitl [Ha14]; · iexact Ha14
    isplitl [Ha15]; · iexact Ha15
    iexact Ha16
  rw [wp_ret]; imodintro
  iapply Hk
  isplitr [Hd Hws Hout]
  · unfold Φ₁ scratch
    isplitl [HX0 HX1 HX2 HX3]
    · iapply (split_X c (xIn m ρ c)).2
      isplitl [HX0]; · iexact HX0
      isplitl [HX1]; · iexact HX1
      isplitl [HX2] <;> iassumption
    isplitr [Hz]
    · isplitl [HW0 HW0a HW0b HW1 HW1a HW1b HW2]
      · iexists (wAll m ρ c)
        iapply (whole_W m ρ c)
        isplitl [HW0]; · iexact HW0
        isplitl [HW0a]; · iexact HW0a
        isplitl [HW0b]; · iexact HW0b
        isplitl [HW1]; · iexact HW1
        isplitl [HW1a]; · iexact HW1a
        isplitl [HW1b] <;> iassumption
      isplitl [HO0 HO1 HO2]
      · iexists (rOut m ρ c)
        iapply (split_O c (rOut m ρ c)).2
        isplitl [HO0]; · iexact HO0
        isplitl [HO1] <;> iassumption
      isplitl [HI0 HI1 HI2]
      · iexists (rIn m ρ c)
        iapply (split_I c (rIn m ρ c)).2
        isplitl [HI0]; · iexact HI0
        isplitl [HI1] <;> iassumption
      isplitl [HXb]; · iexists _; iexact HXb
      isplitl [HBl HBm HBr]
      · iexists (wBf m ρ c)
        iapply (share_B c (wBf m ρ c)).2
        isplitl [HBl]; · iexact HBl
        isplitl [HBm] <;> iassumption
      iexact HS
    iexact Hz
  isplitl [Hd]; · iexact Hd
  isplitl [Hws] <;> iassumption

end Cert.Exchange

end
-- ==== Proof.Launch.lean ====
/-
The launch: the exchange's resources dealt to the four devices, every device's body run in the staging pipeline,
and the run of `main` — it ends, with the computed result on every device, the arguments unchanged and every
semaphore at zero.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staging pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the staging pipeline is told of device `c`: the arrays' contents, what the staged buffers hold after the
body, what the device holds beside them before and after, and what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => wIn m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem windows_sep (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole, at contents `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, held c cc0_stg0_0 ((dats m ρ 0 c).before (0 : Fin 2) t₀ d))
    ∗ (∃ d, held c cc0_stg1_0 ((dats m ρ 0 c).before (1 : Fin 2) t₀ d)))
def bodyPost (c : Dev nD) : sProp 𝕄 :=
  iprop(Φ₁ m ρ c ∗ (dats m ρ 0 c).owesAt () t₀.succ ∗ held c cc0_stg0_0 (wIn m ρ c) ∗ held c cc0_stg1_0 (outAt m ρ c))

theorem body_pipelined (c : Dev nD) : bodyPre m ρ c ⊢ WP c bodyC (fun _ => bodyPost m ρ c) := by
  unfold bodyPre Φ₀ start
  iintro ⟨⟨⟨⟨%K, Hg⟩, Hcr, Hlev, HX⟩, Hscr⟩, Ho, ⟨%d0, %g0, %hg0, Hx⟩, ⟨%d1, %g1, %hg1, Hout⟩⟩
  have hx : g0 = wIn m ρ c := by rw [hg0]; unfold Dat.before; rw [if_pos (fetch0_0 t₀)]; rfl
  subst hx
  unfold Dat.owesAt Pipeline.owesWithin
  icases Ho with ⟨%W, %hW, HO⟩
  iapply (sound_body m ρ K c fun _ => bodyPost m ρ c) $$ [Hg Hcr Hlev HX Hscr HO Hx Hout]
  · isplitl [Hg]; · iexact Hg
    isplitl [Hcr]; · iexact Hcr
    isplitl [Hlev]; · iexact Hlev
    isplitl [HX]; · iexact HX
    isplitl [Hscr]; · iexact Hscr
    isplitl [HO]; · unfold dues; iexists W; iexact HO
    isplitl [Hx]; · iexact Hx
    iexists g1; iexact Hout
  iintro ⟨HΦ, Hd, Hx, Hout⟩
  unfold bodyPost dues Dat.owesAt Pipeline.owesWithin
  isplitl [HΦ]; · iexact HΦ
  isplitl [Hd]
  · icases Hd with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 8000 in
/-- The body on device `c`, as the staging pipeline asks for it. -/
theorem body_obligation (c : Dev nD) : BodyObligation (dats (F := F) m ρ 0 c) (defs₀ (F := F)) 𝒱₀ () Set.univ := fun t => by
  rw [fin_N t]
  rw [windows_sep, windows_sep]
  simp only [owns_whole_eq]
  exact body_pipelined m ρ c

/-! ## What the launch deals -/

/-- The kernel's own semaphores. -/
abbrev osem : Fin 15 → SemLoc sig := fun i => .dma (⟨i.val + 2, by omega⟩ : Fin 17)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 16 → GSem nD τ sig) := by
  rintro ⟨c, k⟩ ⟨c', k'⟩ h
  have h1 : c = c' := congrArg (fun g : GSem nD τ sig => g.1.1) h
  have h2 : k = k' := csem_injective (congrArg Prod.snd h)
  rw [h1, h2]
def cellsX : Finset (GSem nD τ sig) := Finset.univ.map ⟨kcell, kcell_injective⟩

/-- The tokens of the cells of all devices. -/
abbrev tokOf (cj : Dev nD × Fin 21) : GSem nD τ sig × ℕ × Fin 3 := (kcell (cj.1, tokCell cj.2), tokRound cj.2, tokDuty cj.2)
theorem tok_distinct : Function.Injective fun j : Fin 21 => (tokCell j, tokRound j, tokDuty j) := by decide
theorem tokOf_injective : Function.Injective tokOf := by
  rintro ⟨c, j⟩ ⟨c', j'⟩ h
  have h0 := kcell_injective (congrArg Prod.fst h)
  have h1 : c = c' := congrArg Prod.fst h0
  have h2 : j = j' := tok_distinct (Prod.ext (congrArg Prod.snd h0) (congrArg (fun x : GSem nD τ sig × ℕ × Fin 3 => x.2) h))
  rw [h1, h2]
def toksX : Finset (GSem nD τ sig × ℕ × Fin 3) := Finset.univ.map ⟨tokOf, tokOf_injective⟩

def u₀ : UU :=
  (initOf (Pipeline.cells cfgs cellOf_inj) (Pipeline.launchToks cfgs cellOf_inj), initOf cellsX toksX)

/-- The tokens of device `c`'s own cells. -/
def toks (c : Dev nD) : sProp 𝕄 := bigSep Finset.univ fun j : Fin 21 => tokAt c j

/-- What the launch gives device `c` first: the rounds of its cells, where it stands, its own cells' tokens. -/
def dealt (c : Dev nD) : sProp 𝕄 :=
  iprop((bigSep Finset.univ fun k : Fin 16 => roundState ER (Rd m ρ) (kcell (c, k)) 0)
    ∗ (bigSep Finset.univ fun k : Fin 16 => iprop(atPos ER (kcell (c, k)) 0 ∅ 0 ∗ reached ER (kcell (c, k)) 0)) ∗ toks c)

/-- What the exchange then starts from. -/
def readied (c : Dev nD) : sProp 𝕄 := iprop(∃ K, ghost m ρ K c)

theorem fund : BI.own (ER (initOf cellsX toksX)) ⊢ (|==> bigSep Finset.univ (dealt m ρ) : sProp 𝕄) := by
  have hX (Φ : GSem nD τ sig → sProp 𝕄) : bigSep cellsX Φ = bigSep Finset.univ fun c : Dev nD => bigSep Finset.univ fun k : Fin 16 => Φ (kcell (c, k)) := by
    unfold cellsX; rw [bigSep_map, bigSep_univ_prod]; rfl
  have hT : bigSep toksX (fun x => (dutyTok ER x.1 x.2.1 x.2.2 : sProp 𝕄)) = bigSep Finset.univ fun c : Dev nD => toks c := by
    unfold toksX; rw [bigSep_map, bigSep_univ_prod]; rfl
  iintro HX
  imod (Rounds.fund ER (Rd m ρ) cellsX toksX) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

theorem unscoped_eq (c : Dev nD) : (unscopedSems0 c : sProp 𝕄) = semVal (barCell c) 0 := by
  unfold unscopedSems0; rw [bigSep_eq_bigSepL_of_eq [SemLoc.reg barS] (by decide) (by decide)]; rfl

/-- A device's counters are the barrier's and its own fifteen. -/
theorem sems_split (c : Dev nD) : (bigSep Finset.univ fun k : Fin 16 => semVal (kcell (c, k)) 0 : sProp 𝕄)
    ⊣⊢ iprop(unscopedSems0 c ∗ Pipeline.ownSems0 (Ix := Unit) (Name := ℕ) (U := UU) (Lvl := ℕ) (Val := Elt F) (τ := τ) osem c) := by
  rw [unscoped_eq, Pipeline.ownSems0_eq_of_list c osem [0, 1, 2, 3, 4, 5, 6, 7, 8, 9, 10, 11, 12, 13, 14] (by decide) (by decide),
    bigSep_univ_eq_bigSepL [0, 1, 2, 3, 4, 5, 6, 7, 8, 9, 10, 11, 12, 13, 14, 15] (by decide) (by decide)]
  exact ⟨BI.Entails.refl _, BI.Entails.refl _⟩

theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold dealt
  iintro ⟨Hos, Hus, Hst, Hat, Htok⟩
  ihave Hv := (sems_split (F := F) c).2 $$ [Hos Hus]
  · isplitl [Hus] <;> iassumption
  imod (show iprop((bigSep Finset.univ fun k : Fin 16 => semVal (kcell (c, k)) 0) ∗ bigSep Finset.univ fun k : Fin 16 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens, dealt by whose cell they are for, go to the devices that pay with them. -/
theorem toks_around : (bigSep Finset.univ fun c : Dev nD => (toks c : sProp 𝕄)) = bigSep Finset.univ fun c : Dev nD => payToks c := by
  unfold toks payToks
  rw [bigSep_univ_comm, bigSep_univ_comm (fun (c : Dev nD) (j : Fin 21) => (tokAt (payE j c) j : sProp 𝕄))]
  exact bigSep_congr fun j _ => bigSep_univ_equiv (payE j) (fun c : Dev nD => (tokAt c j : sProp 𝕄))

theorem ready (K : Dev nD × Fin 16 → ℕ) (c : Dev nD) : iprop(records m ρ K ∗ starts c ∗ payToks c) ⊢ readied m ρ c := by
  unfold readied ghost
  iintro H
  iexists K
  iexact H

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (readied m ρ) := by
  rw [bigSep_sep', bigSep_sep', ← bigSep_univ_prod (fun ck : Dev nD × Fin 16 => iprop(∃ κ : ℕ, cellInv ER (Rd m ρ) κ (kcell ck))),
    bigSep_congr (s := Finset.univ) (fun (c : Dev nD) _ => bigSep_sep' Finset.univ (fun k : Fin 16 => (atPos ER (kcell (c, k)) 0 ∅ 0 : sProp 𝕄)) (fun k => reached ER (kcell (c, k)) 0)),
    bigSep_sep', ← bigSep_univ_prod (fun ck : Dev nD × Fin 16 => (reached ER (kcell ck) 0 : sProp 𝕄)), toks_around]
  iintro ⟨HI, ⟨Hat, #HR⟩, Htok⟩
  ihave HK := (BI.bigSep_exists_pi Finset.univ (fun (ck : Dev nD × Fin 16) (κ : ℕ) => (cellInv ER (Rd m ρ) κ (kcell ck) : sProp 𝕄))) $$ HI
  icases HK with ⟨%K, #HI⟩
  iapply (with_records (R := records m ρ K) (Φ := fun c => iprop(starts c ∗ payToks c)) fun c _ => ready m ρ K c)
  isplitr
  · unfold records; isplitl; · iexact HI
    iexact HR
  · rw [bigSep_sep']
    isplitl [Hat]; · iexact Hat
    iexact Htok

/-- All devices' semaphores become the exchange's cells. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (readied m ρ) :=
  ((bigSep_mono fun c _ => core_alloc m ρ c).trans (bigSep_fupd _ _)).trans (BI.fupd_mono (regroup m ρ))

/-! ## The credits for what the others owe -/

/-- Who owes the `i`-th payment to a device. -/
def dueFrom (i : Fin 10) (c : Dev nD) : Dev nD := match i with
  | 0 | 4 | 6 | 7 => rgt c | 1 | 3 | 5 | 8 => lft c | 2 | 9 => dia c
theorem due_from (i : Fin 10) (c : Dev nD) : dueDev i (dueFrom i c) = c := by revert i c; decide
theorem from_due (i : Fin 10) (c : Dev nD) : dueFrom i (dueDev i c) = c := by revert i c; decide

theorem credit_cons (i : Fin 10) (l : List (Fin 10)) (c : Dev nD) :
    (Pipeline.launchCred (fun d => owe d (i :: l)) c : sProp 𝕄)
      ⊢ iprop(Pipeline.launchCred (fun d => owe d l) c ∗ cred (tallyAt ((c : Thread nD τ), dueSem i) () (dueAmt i))) := by
  show (Pipeline.launchCred (fun d => owe d l + tallyAt (dueCell i d) () (dueAmt i)) c : sProp 𝕄) ⊢ _
  rw [Pipeline.launchCred_add]
  exact sep_mono_right (Pipeline.launchCred_tallyAt (dueSem i) (dueDev i) (dueFrom i) (due_from i) (from_due i) () (dueAmt i) c)

theorem creds (c : Dev nD) : (Pipeline.launchCred O₀ c : sProp 𝕄) ⊢ credits c := by
  show (Pipeline.launchCred (fun d => owe d allDues) c : sProp 𝕄) ⊢ _
  iintro H
  ihave H := (credit_cons (F := F) 0 _ c) $$ H; icases H with ⟨H, H0⟩
  ihave H := (credit_cons (F := F) 1 _ c) $$ H; icases H with ⟨H, H1⟩
  ihave H := (credit_cons (F := F) 2 _ c) $$ H; icases H with ⟨H, H2⟩
  ihave H := (credit_cons (F := F) 3 _ c) $$ H; icases H with ⟨H, H3⟩
  ihave H := (credit_cons (F := F) 4 _ c) $$ H; icases H with ⟨H, H4⟩
  ihave H := (credit_cons (F := F) 5 _ c) $$ H; icases H with ⟨H, H5⟩
  ihave H := (credit_cons (F := F) 6 _ c) $$ H; icases H with ⟨H, H6⟩
  ihave H := (credit_cons (F := F) 7 _ c) $$ H; icases H with ⟨H, H7⟩
  ihave H := (credit_cons (F := F) 8 _ c) $$ H; icases H with ⟨H, H8⟩
  ihave H := (credit_cons (F := F) 9 _ c) $$ H; icases H with ⟨-, H9⟩
  unfold credits
  isplitl [H0 H1 H2]
  · have e : (tallyAt (barCell c) () 3 : CellTallies nD τ sig Unit) = tallyAt (barCell c) () 1 + (tallyAt (barCell c) () 1 + tallyAt (barCell c) () 1) := by
      rw [tallyAt_add, tallyAt_add]
    rw [e]
    iapply (cred_add _ _).2
    isplitl [H0]; · iexact H0
    iapply (cred_add _ _).2
    isplitl [H1]; · iexact H1
    iexact H2
  isplitl [H3]; · iexact H3
  isplitl [H4]; · iexact H4
  isplitl [H5]; · iexact H5
  isplitl [H7]; · iexact H7
  isplitl [H8]; · iexact H8
  isplitl [H6]; · iexact H6
  iexact H9

/-! ## In and out of the region -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ readied m ρ c)
      ⊢ |={Set.univ}=> iprop(start m ρ c ∗ emp) := by
  rw [Pipeline.unscopedRestP_none, unscopedRest0_eq]
  iintro ⟨HX, Hlev, Hcr, -, HG⟩
  ihave Hc := (creds (F := F) c) $$ Hcr
  imodintro
  unfold start readied
  isplitl
  · isplitl [HG]; · iexact HG
    isplitl [Hc]; · iexact Hc
    isplitl [Hlev]; · iexact Hlev
    iexact HX
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- What the run leaves with device `c` beside its arrays: the barrier's counter at zero, its rows of `x`. -/
def left (c : Dev nD) : sProp 𝕄 := iprop(unscopedSems0 c ∗ atX c Finset.univ fullShare (xIn m ρ c))

theorem phi1_exit (c : Dev nD) :
    (dats m ρ 0 c).Φ (Fin.last cfg0.N) ⊢ iprop(left m ρ c ∗ Pipeline.ownSems0 osem c ∗ Pipeline.scopedRest cfg0.spec c) := by
  rw [show (dats m ρ 0 c).Φ (Fin.last cfg0.N) = Φ₁ m ρ c from rfl, scopedRest0_eq]
  unfold Φ₁ scratch left
  iintro ⟨HX, Hr, Hz⟩
  ihave Hz := (sems_split (F := F) c).1 $$ Hz
  icases Hz with ⟨Hb, Ho⟩
  isplitl [HX Hb]
  · isplitl [Hb] <;> iassumption
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · fin_cases w <;> fin_cases s <;> exact mayWait c _ allDues (by decide)
    · show _ ⊢ MayWait _ _ _ 0
      rw [MayWait_zero]; iintro -; iempintro

/-- What is read off the memory at the end. -/
def ends (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)

theorem left_read (c : Dev nD) (s' : Phys nD τ sig (Elt F)) :
    iprop(left m ρ c ∗ emp ∗ SI s') ⊢ (|={Set.univ}=> iprop(⌜ends m c s'.mem⌝ ∗ SI s') : sProp 𝕄) := by
  unfold left
  iintro ⟨⟨Hu, HX⟩, -, HSI⟩
  imod (Pipeline.unscopedSems0_read (X := unscopedSems0 c) (c := c) fupd_intro s') $$ [Hu HSI] with ⟨%hs, HSI⟩
  · isplitl [Hu] <;> iassumption
  icombine HSI HX gives %hx
  imodintro
  isplitr
  · ipureintro
    exact ⟨hs, Buf.eq_of_forall_mem_univ hx⟩
  iexact HSI

/-! ## The run -/

/-- The arrays of the staged windows when the region is through. -/
def finalA (c : Dev nD) (w : Fin cfg0.W) : Buf (Elt F) ((cfg0.win w).arr.view.loc (c : Thread nD τ)) := (dats m ρ 0 c).arrAt w cfg0.N

theorem final_w (c : Dev nD) : finalA m ρ c (0 : Fin 2) = m ((c : Thread nD τ).loc main_arg1) :=
  (dats (F := F) m ρ 0 c).arrAt_in (0 : Fin 2) rfl _

theorem flushed_eq (c : Dev nD) (t : Fin cfg0.N) : (dats m ρ 0 c).flushed (1 : Fin 2) t = (win0_1.blk t).view.read (Elt F) (outAt m ρ c) := by
  rw [fin_N t]
  have ha : (dats m ρ 0 c).after (1 : Fin 2) t₀ = outAt m ρ c := rfl
  unfold Dat.flushed
  rw [ha]
  generalize outAt m ρ c = f
  funext x
  show f _ = f _
  refine congrArg f (funext fun a => Fin.ext ?_)
  show _ = 0 * S4096x512.size a + 1 * (x a).val
  rw [Nat.zero_mul, Nat.zero_add, Nat.one_mul]

/-- The one block of the result is the whole array. -/
theorem cover (i : main_v1.ty.Idx) : ∃ t : Fin cfg0.N, (cfg0.win 1).flush t = true ∧ i ∈ ((cfg0.win 1).blk t).view.set := by
  refine ⟨t0_0, flush0_1 _, ?_⟩
  show i ∈ ((View.whole main_v1).slice (win0_1.rect t0_0)).set
  rw [View.set_slice_whole, Rect.mem_set_unit]
  have e : ∀ a, win0_1.index t0_0 a * win0_1.size a = 0 ∧ win0_1.xsize (grid0.coords t0_0) a = S4096x512.size a := by decide +kernel
  intro a
  show win0_1.index t0_0 a * win0_1.size a ≤ (i a : Nat) ∧ (i a : Nat) < win0_1.index t0_0 a * win0_1.size a + win0_1.xsize (grid0.coords t0_0) a
  rw [(e a).1, (e a).2, Nat.zero_add]
  exact ⟨Nat.zero_le _, (i a).isLt⟩

/-- The result array holds what the body left in the staged result. -/
theorem final_out (c : Dev nD) : finalA m ρ c (1 : Fin 2) = outAt m ρ c :=
  (dats (F := F) m ρ 0 c).arrAt_eq_of_cover (1 : Fin 2) (outAt m ρ c) (fun t _ => flushed_eq m ρ c t) cover

/-- What every run of `main` ends with: on every device the result, the arguments as they were; every semaphore at zero. -/
def Done (r : PUnit × MemSt nD τ sig (Elt F)) : Prop :=
  (∀ c : Dev nD, r.2.mem ((c : Thread nD τ).loc main_v1) = outAt m ρ c
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

set_option maxRecDepth 8000 in
/-- On the mesh of four devices, for any float values and from any memory whose semaphores are at zero, every run of
`main` ends, and ends so. -/
theorem run_main : θ_run defs (onTc (τ := τ) (main (F := F))) (s₀ m ρ) (Done m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := readied m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := left m ρ) (Z := fun _ => iprop(emp))
    (hX := start_intro m ρ) (hin := phi0_intro m ρ) (hout := phi1_exit m ρ)
    (QY := ends m)
    (hY := left_read m ρ)
    (hQ := fun s h hs => ⟨fun c => ⟨((h c).1 (1 : Fin 2)).trans (final_out m ρ c), (h c).2.2.2, ((h c).1 (0 : Fin 2)).trans (final_w m ρ c)⟩,
      sem_eq_zero hs fun c => (h c).2.2.1⟩)

end Cert.Exchange

end
-- ==== Proof.Frames.lean ====
/-
The frame claims: each program runs to its end, leaving its arguments as they were and every semaphore at zero.
-/
module

public import proofs.«01_k».proof.Defs
public import proofs.«01_k».proof.Proof.Gen.Kernel
public import proofs.«01_k».proof.Proof.Launch
public import proofs.«01_k».proof.Proof.Gen.ReferenceIdeal.Run
public import proofs.«01_k».proof.Proof.Gen.SiluIdeal.Run
public import Idealize.ShloMosaic.Lib.Quiescent

@[expose] public section

noncomputable section

namespace Cert.Exchange

open Idealize.ShloMosaic Idealize.ShloMosaic.TcCoe Idealize.SL.Sem

section
variable {F : FTy → Type} [FloatOps F]
set_option maxRecDepth 20000

/-- The printed program's table of bodies and the idealized program's are the same text. -/
theorem defs₀_same : (Cert.Kernel.defs₀ (F := F)) = Cert.KernelIdeal.defs₀ (F := F) := by
  funext l x a
  cases l
  · obtain rfl : x = (0 : Fin 1) := Subsingleton.elim (α := Fin 1) _ _
    obtain ⟨t, s⟩ := a
    rfl
  all_goals rfl

/-- And so are their whole tables. -/
theorem defs_same : (Cert.Kernel.defs (F := F)) = Cert.KernelIdeal.defs (F := F) := by
  unfold Cert.Kernel.defs Cert.KernelIdeal.defs
  rw [defs₀_same]
  rfl

end

/-- The kernel as printed runs, its arguments and every semaphore as before. -/
theorem frame_kernel : Cert.quiescent_Kernel := fun m ρ _ => by
  rw [defs_same]
  exact (θ_run Cert.KernelIdeal.defs _ _).mono (fun _ h => ⟨fun c => (h.1 c).2, h.2⟩) (run_main (F := Bits) m ρ)

/-- The kernel over exact arithmetic runs, its arguments and every semaphore as before. -/
theorem frame_ideal : Cert.quiescent_KernelIdeal := fun m ρ _ =>
  (θ_run Cert.KernelIdeal.defs _ _).mono (fun _ h => ⟨fun c => (h.1 c).2, h.2⟩) (run_main (F := Ideal) m ρ)

/-- The reference over exact arithmetic runs, its arguments as before; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The formula without the guard runs, its arguments as before; it has no semaphore. -/
theorem frame_silu : Cert.quiescent_SiluIdeal := fun m ρ _ =>
  (θ_run Cert.SiluIdeal.defs _ _).mono (fun r h => ⟨fun c => (h c).2, sem_eq_zero_of_no_sems (by decide) r.2⟩)
    (Cert.SiluIdeal.Value.run (F := Ideal) m ρ)

end Cert.Exchange

end
-- ==== Proof.Algebra.lean ====
/-
What the kernel computes over exact arithmetic, and that the references compute it too: every element is `y / (1 + e⁻ʸ)`
of the element `y` of the product of the whole `x` with the whole `w`.
-/
module

public import proofs.«01_k».proof.Defs
public import proofs.«01_k».proof.Proof.Launch
public import proofs.«01_k».proof.Proof.Gen.ReferenceIdeal.Run
public import proofs.«01_k».proof.Proof.Gen.SiluIdeal.Run
public import proofs.«01_k».proof.Proof.Gen.On_clip_idle
public import Idealize.ShloMosaic.Lib.IdealHost
public import Idealize.ShloMosaic.Lib.MatmulPlain
public import Idealize.ShloMosaic.Lib.StackMember
public import Idealize.ShloMosaic.Lib.Layout

@[expose] public section

noncomputable section

namespace Cert.Exchange

open Idealize.ShloMosaic Idealize.ShloMosaic.TcCoe Idealize.SL.Sem
open Idealize.ShloMosaic.ValueIdx
open Cert.KernelIdeal (nD τ sig main_arg0 main_arg1 main_v1)
open scoped BigOperators

/-! ## The function -/

/-- `y / (1 + e⁻ʸ)`. -/
def siluOf (y : EReal) : EReal := Ideal.div y (1 + Ideal.exp (-y))

theorem exp_nonneg (y : EReal) : 0 ≤ Ideal.exp y := by
  induction y with
  | bot => simp
  | top => simp
  | coe r => rw [Ideal.exp_coe]; exact EReal.coe_nonneg.mpr (Real.exp_pos r).le

theorem denom_ne_zero (y : EReal) : 1 + Ideal.exp (-y) ≠ 0 :=
  (lt_of_lt_of_le (show (0 : EReal) < 1 from zero_lt_one) (le_add_of_nonneg_right (exp_nonneg (-y)))).ne'

/-- The kernel's form of it: `y` times the logistic function of `y`. -/
theorem mul_logistic (y : EReal) : y * Ideal.logistic y = siluOf y := Ideal.mul_one_div (denom_ne_zero y)

/-- An element of the product of the whole arrays. -/
def dotOf (X : (⟨2, ![4096, 4096]⟩ : Shape).Idx → EReal) (W : (⟨2, ![4096, 2048]⟩ : Shape).Idx → EReal)
    (a : Fin 4096) (b : Fin 2048) : EReal := ∑ k : Fin 4096, X (ix2 a k) * W (ix2 k b)

/-- The whole result. -/
def whole (X : (⟨2, ![4096, 4096]⟩ : Shape).Idx → EReal) (W : (⟨2, ![4096, 2048]⟩ : Shape).Idx → EReal)
    (i : (⟨2, ![4096, 2048]⟩ : Shape).Idx) : EReal := siluOf (dotOf X W (i 0) (i 1))

/-! ## The kernel's result -/

variable (m : (ℓ : Loc nD τ sig) → Buf (Elt Ideal) ℓ) (ρ : Dev nD → PrngReg)

/-- A device's rows of `x`, and its columns of `w`, as arrays of extended reals. -/
def xOf (c : Dev nD) : (⟨2, ![1024, 4096]⟩ : Shape).Idx → EReal := m ((c : Thread nD τ).loc main_arg0)
def wOf (c : Dev nD) : (⟨2, ![4096, 512]⟩ : Shape).Idx → EReal := m ((c : Thread nD τ).loc main_arg1)

/-- The staged `w` is the device's array. -/
theorem wIn_eq (c : Dev nD) : wIn m ρ c = m ((c : Thread nD τ).loc main_arg1) := by
  unfold wIn
  generalize hf : (s₀ m ρ).mem ((c : Thread nD τ).loc main_arg1) = f
  have hf' : m ((c : Thread nD τ).loc main_arg1) = f := hf
  rw [hf']
  funext x
  show f _ = f _
  refine congrArg f (funext fun a => Fin.ext ?_)
  show 0 * Cert.KernelIdeal.S4096x512.size a + 1 * (x a).val = _
  rw [Nat.zero_mul, Nat.zero_add, Nat.one_mul]

/-- An element of the product of one device's rows with one device's columns. -/
theorem prod_apply (d e : Dev nD) (r : Fin 1024) (b : Fin 512) :
    prod m ρ d e (ix2 r b) = siluOf (∑ k : Fin 4096, xOf m d (ix2 r k) * wOf m e (ix2 k b)) := by
  rw [← mul_logistic]
  have hp : (matmul (φ₁ := .bf16) (φ₂ := .bf16) Cert.KernelIdeal.dot_S1024x4096_S4096x512_S1024x512_1_0_0_1_n_n none (xBf m ρ d) (wBf m ρ e)
        (constant Cert.KernelIdeal.S1024x512 .f32 0x00000000#32) : FVec Ideal Cert.KernelIdeal.S1024x512 .f32) (ix2 r b)
      = ∑ k : Fin 4096, xOf m d (ix2 r k) * wOf m e (ix2 k b) := by
    refine (Ideal.matmul_plain_apply (φ₁ := .bf16) (φ₂ := .bf16) none (xBf m ρ d) (wBf m ρ e) _ r b).trans ?_
    rw [constant_apply, Ideal.ofBits_zero_f32, zero_add]
    refine Finset.sum_congr rfl fun k _ => ?_
    exact congrArg (xOf m d (ix2 r k) * ·) (congrFun (wIn_eq m ρ e) (ix2 k b))
  rw [← hp]
  rfl

/-- Every element of a device's result, its own rows or another device's. -/
theorem outAt_apply (c : Dev nD) (a : Fin 4096) (b : Fin 512) :
    outAt m ρ c (ix2 a b) = prod m ρ (rowDev a) c (ix2 (rowIn a) b) := by
  unfold outAt
  by_cases h : rowDev a = c
  · exact (if_pos h).trans (by rw [← h]; rfl)
  · exact if_neg h

variable (X : (⟨2, ![4096, 4096]⟩ : Shape).Idx → EReal) (W : (⟨2, ![4096, 2048]⟩ : Shape).Idx → EReal)

/-- From its blocks of the whole arrays, each device's result is its block of the whole result. -/
theorem out_block
    (hX : ∀ c : Dev nD, m ((c : Thread nD τ).loc main_arg0) = Layout.block ⟨2, ![1024, 4096]⟩ ⟨2, ![4096, 4096]⟩ 0 4 c X)
    (hW : ∀ c : Dev nD, m ((c : Thread nD τ).loc main_arg1) = Layout.block ⟨2, ![4096, 512]⟩ ⟨2, ![4096, 2048]⟩ 1 4 c W)
    (c : Dev nD) : outAt m ρ c = Layout.block ⟨2, ![4096, 512]⟩ ⟨2, ![4096, 2048]⟩ 1 4 c (whole X W) := by
  funext i
  obtain ⟨a, b, rfl⟩ : ∃ (a : Fin 4096) (b : Fin 512), i = ix2 a b := ⟨i 0, i 1, (eq_ix2 i)⟩
  rw [outAt_apply, prod_apply, Layout.block_apply]
  unfold xOf wOf
  rw [hX, hW]
  refine congrArg siluOf (Finset.sum_congr rfl fun k _ => ?_)
  rw [Layout.block_apply, Layout.block_apply]
  refine congrArg₂ (· * ·) (congrArg X (funext fun x => Fin.ext ?_)) (congrArg W (funext fun x => Fin.ext ?_))
  · match x with
    | ⟨0, _⟩ => show a.val / 1024 * 1024 + a.val % 1024 = a.val; omega
    | ⟨1, _⟩ => rfl
  · match x with
    | ⟨0, _⟩ => rfl
    | ⟨1, _⟩ => rfl

/-- So every run of the kernel over exact arithmetic ends with each device's block of the whole result. -/
theorem run_ideal
    (hX : ∀ c : Dev nD, m ((c : Thread nD τ).loc main_arg0) = Layout.block ⟨2, ![1024, 4096]⟩ ⟨2, ![4096, 4096]⟩ 0 4 c X)
    (hW : ∀ c : Dev nD, m ((c : Thread nD τ).loc main_arg1) = Layout.block ⟨2, ![4096, 512]⟩ ⟨2, ![4096, 2048]⟩ 1 4 c W) :
    θ_run Cert.KernelIdeal.defs (onTc (τ := τ) (Cert.KernelIdeal.main (F := Ideal))) ⟨m, fun _ => 0, ρ⟩ fun r => ∀ c : Dev nD,
      r.2.mem ((c : Thread nD τ).loc main_v1) = Layout.block ⟨2, ![4096, 512]⟩ ⟨2, ![4096, 2048]⟩ 1 4 c (whole X W)
      ∧ r.2.mem ((c : Thread nD τ).loc main_arg0) = m ((c : Thread nD τ).loc main_arg0)
      ∧ r.2.mem ((c : Thread nD τ).loc main_arg1) = m ((c : Thread nD τ).loc main_arg1) :=
  (θ_run Cert.KernelIdeal.defs _ _).mono (fun _ h c => ⟨((h.1 c).1).trans (out_block m ρ X W hX hW c), (h.1 c).2⟩) (run_main (F := Ideal) m ρ)

/-! ## The references -/

section
open Cert.SiluIdeal Cert.SiluIdeal.Gen

/-- The product on the host. -/
abbrev hostDot : FVec Ideal S4096x2048 .f32 :=
  Host.dotGeneral (F := Ideal) (φ₁ := .f32) (φ₂ := .f32) dot_S4096x4096_S4096x2048_S4096x2048_1_0_0_1_n_n none X W

/-- It is the whole product. -/
theorem hostDot_apply (i : S4096x2048.Idx) : hostDot X W i = dotOf X W (i 0) (i 1) := by
  rw [eq_ix2 i]
  exact StackMember.dotGeneral_plain_apply (φ₁ := .f32) (φ₂ := .f32) none X W (i 0) (i 1)

/-- A scalar constant spread over the result's shape. -/
abbrev spread (w : BitVec 32) : FVec Ideal S4096x2048 .f32 := broadcastInDim S4096x2048 ![] bcast_S_S4096x2048 (constant S_ .f32 w)

/-- The unguarded formula on the host, at an index. -/
theorem silu_apply (i : S4096x2048.Idx) :
    Host.divf (hostDot X W) (addf (spread 0x3F800000#32) (Host.exp (Host.negf (hostDot X W)))) i = whole X W i := by
  show Ideal.div (hostDot X W i) (Ideal.ofBits .f32 0x3F800000#32 + Ideal.exp (-(hostDot X W i))) = _
  rw [Ideal.ofBits_one_f32, hostDot_apply]; rfl

/-- The guarded formula on the host, at an index whose element lies within the guard's bounds. -/
theorem clip_apply (i : S4096x2048.Idx) (lo : Ideal.ofBits .f32 0xC2700000#32 ≤ hostDot X W i) (hi : hostDot X W i ≤ Ideal.ofBits .f32 0x42700000#32) :
    Host.divf (hostDot X W) (addf (spread 0x3F800000#32) (Host.exp (Host.negf
      (minimumf (spread 0x42700000#32) (maximumf (spread 0xC2700000#32) (hostDot X W)))))) i = whole X W i := by
  rw [← silu_apply]
  show Ideal.div (hostDot X W i) (Ideal.ofBits .f32 0x3F800000#32
      + Ideal.exp (-(min (Ideal.ofBits .f32 0x42700000#32) (max (Ideal.ofBits .f32 0xC2700000#32) (hostDot X W i)))))
    = Ideal.div (hostDot X W i) (Ideal.ofBits .f32 0x3F800000#32 + Ideal.exp (-(hostDot X W i)))
  rw [max_eq_right lo, min_eq_right hi]

/-- What the mask says where it is set: the element lies within the guard's bounds. -/
theorem mask_bounds (i : S4096x2048.Idx) (h : Cert.On_clip_idle.fn (F := Ideal) X W i = 1#1) :
    Ideal.ofBits .f32 0xC2700000#32 ≤ hostDot X W i ∧ hostDot X W i ≤ Ideal.ofBits .f32 0x42700000#32 := by
  have h' : BitVec.ofBool (decide (Ideal.ofBits .f32 0xC2700000#32 ≤ hostDot X W i))
      &&& BitVec.ofBool (decide (hostDot X W i ≤ Ideal.ofBits .f32 0x42700000#32)) = 1#1 := h
  by_cases h1 : Ideal.ofBits .f32 0xC2700000#32 ≤ hostDot X W i <;> by_cases h2 : hostDot X W i ≤ Ideal.ofBits .f32 0x42700000#32
  · exact ⟨h1, h2⟩
  all_goals (simp only [h1, h2, decide_true, decide_false] at h'; exact absurd h' (by decide))

end

/-! ## The claims -/

/-- Kernel and unguarded formula compute the same function over the extended reals. -/
theorem algebraic_silu : Cert.algebraic_KernelIdeal_SiluIdeal := fun m g m' g' _ harg =>
  ⟨whole _ _, run_ideal m g _ _ (fun c => (harg c).1) (fun c => (harg c).2),
    (θ_run Cert.SiluIdeal.defs _ _).mono (fun r h => ⟨((h 0).1).trans (funext fun i => silu_apply _ _ i), (h 0).2⟩)
      (Cert.SiluIdeal.Value.run (F := Ideal) m' g')⟩

/-- Kernel and reference compute the same function over the extended reals wherever the reference's guard does not act. -/
theorem algebraic_reference : Cert.algebraic_KernelIdeal_ReferenceIdeal_on_clip_idle := fun m g m' g' _ harg =>
  ⟨whole _ _,
    (θ_run Cert.KernelIdeal.defs _ _).mono (fun r h c => ⟨fun i _ => congrFun (h c).1 i, (h c).2⟩)
      (run_ideal m g _ _ (fun c => (harg c).1) (fun c => (harg c).2)),
    (θ_run Cert.ReferenceIdeal.defs _ _).mono (fun r h => ⟨fun i hi => by
        have hb := mask_bounds _ _ i hi
        exact (congrFun (h 0).1 i).trans (clip_apply _ _ i hb.1 hb.2), (h 0).2⟩)
      (Cert.ReferenceIdeal.Value.run (F := Ideal) m' g')⟩

end Cert.Exchange

end
-- ==== Proof.lean ====
/-
The certificate: every claim of `Cert.Claim`, assembled from the modules beside this one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Gen.On_clip_idle
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The certificate's claims hold. -/
theorem claim : Cert.Claim := ⟨Cert.Kernel.Gen.facts, Cert.KernelIdeal.Gen.facts, Cert.ReferenceIdeal.Gen.facts, Cert.SiluIdeal.Gen.facts,
  Cert.On_clip_idle.Gen.facts, Cert.Exchange.frame_kernel, Cert.Exchange.frame_ideal, Cert.Exchange.frame_reference, Cert.Exchange.frame_silu, trivial,
  Cert.Exchange.algebraic_reference, Cert.Exchange.algebraic_silu⟩

end Cert.Proof

end
